-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![4096, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S3x2x4x256x128 : Shape := ⟨5, ![3, 2, 4, 256, 128]⟩
abbrev S3x2x4 : Shape := ⟨3, ![3, 2, 4]⟩
abbrev S_ : Shape := ⟨0, ![]⟩
abbrev S256x128 : Shape := ⟨2, ![256, 128]⟩
abbrev S256x1 : Shape := ⟨2, ![256, 1]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S248x128 : Shape := ⟨2, ![248, 128]⟩
abbrev S8x128 : Shape := ⟨2, ![8, 128]⟩
abbrev S240x128 : Shape := ⟨2, ![240, 128]⟩
abbrev S16x128 : Shape := ⟨2, ![16, 128]⟩
abbrev S224x128 : Shape := ⟨2, ![224, 128]⟩
abbrev S32x128 : Shape := ⟨2, ![32, 128]⟩
abbrev S192x128 : Shape := ⟨2, ![192, 128]⟩
abbrev S64x128 : Shape := ⟨2, ![64, 128]⟩
abbrev S128x128 : Shape := ⟨2, ![128, 128]⟩
abbrev S1x1x1x256x128 : Shape := ⟨5, ![1, 1, 1, 256, 128]⟩
abbrev S1x1x1 : Shape := ⟨3, ![1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S3x2x4x256x128, .f32⟩
  | .local _ .vmem, ⟨3, _⟩ => ⟨S3x2x4x256x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.xori v2 c1_i32_1
  let c1_i32_3 : BitVec 32 := 1#32
  let v8 : BitVec 32 := Scalar.muli v6 c1_i32_3
  let v9 : BitVec 32 := Scalar.addi c0_i32 v8
  v9.toNat
def k0_dev2 (d0 : Dev nD) : Nat :=
  let c0_i32_6 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_5 : BitVec 32 := 1#32
  let v10 : BitVec 32 := Scalar.muli v7 c1_i32_5
  let v11 : BitVec 32 := Scalar.addi c0_i32_6 v10
  v11.toNat
def k0_dev3 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_755 : BitVec 32 := 1#32
  let v4811 : BitVec 32 := Scalar.xori v2 c1_i32_755
  let c1_i32_773 : BitVec 32 := 1#32
  let v4815 : BitVec 32 := Scalar.muli v4811 c1_i32_773
  let v4816 : BitVec 32 := Scalar.addi c0_i32_774 v4815
  v4816.toNat
def k0_dev4 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_795 : BitVec 32 := 1#32
  let v5001 : BitVec 32 := Scalar.xori v2 c1_i32_795
  let c1_i32_812 : BitVec 32 := 1#32
  let v5005 : BitVec 32 := Scalar.muli v5001 c1_i32_812
  let v5006 : BitVec 32 := Scalar.addi c0_i32_813 v5005
  v5006.toNat
def k0_dev5 (d0 : Dev nD) : Nat :=
  let c0_i32_852 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_834 : BitVec 32 := 1#32
  let v5191 : BitVec 32 := Scalar.xori v2 c1_i32_834
  let c1_i32_851 : BitVec 32 := 1#32
  let v5195 : BitVec 32 := Scalar.muli v5191 c1_i32_851
  let v5196 : BitVec 32 := Scalar.addi c0_i32_852 v5195
  v5196.toNat
def k0_dev6 (d0 : Dev nD) : Nat :=
  let c0_i32_891 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_873 : BitVec 32 := 1#32
  let v5381 : BitVec 32 := Scalar.xori v2 c1_i32_873
  let c1_i32_890 : BitVec 32 := 1#32
  let v5385 : BitVec 32 := Scalar.muli v5381 c1_i32_890
  let v5386 : BitVec 32 := Scalar.addi c0_i32_891 v5385
  v5386.toNat
def k0_dev7 (d0 : Dev nD) : Nat :=
  let c0_i32_1659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1640 : BitVec 32 := 1#32
  let v10180 : BitVec 32 := Scalar.xori v2 c1_i32_1640
  let c1_i32_1658 : BitVec 32 := 1#32
  let v10184 : BitVec 32 := Scalar.muli v10180 c1_i32_1658
  let v10185 : BitVec 32 := Scalar.addi c0_i32_1659 v10184
  v10185.toNat
def k0_dev8 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1680 : BitVec 32 := 1#32
  let v10370 : BitVec 32 := Scalar.xori v2 c1_i32_1680
  let c1_i32_1698 : BitVec 32 := 1#32
  let v10374 : BitVec 32 := Scalar.muli v10370 c1_i32_1698
  let v10375 : BitVec 32 := Scalar.addi c0_i32_1699 v10374
  v10375.toNat
def k0_dev9 (d0 : Dev nD) : Nat :=
  let c0_i32_1739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1720 : BitVec 32 := 1#32
  let v10560 : BitVec 32 := Scalar.xori v2 c1_i32_1720
  let c1_i32_1738 : BitVec 32 := 1#32
  let v10564 : BitVec 32 := Scalar.muli v10560 c1_i32_1738
  let v10565 : BitVec 32 := Scalar.addi c0_i32_1739 v10564
  v10565.toNat
def k0_dev10 (d0 : Dev nD) : Nat :=
  let c0_i32_1779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1760 : BitVec 32 := 1#32
  let v10750 : BitVec 32 := Scalar.xori v2 c1_i32_1760
  let c1_i32_1778 : BitVec 32 := 1#32
  let v10754 : BitVec 32 := Scalar.muli v10750 c1_i32_1778
  let v10755 : BitVec 32 := Scalar.addi c0_i32_1779 v10754
  v10755.toNat
def k0_dev11 (d0 : Dev nD) : Nat :=
  let c0_i32_1979 : BitVec 32 := 0#32
  let c3_i32_1784 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10764 : BitVec 32 := Scalar.subi c3_i32_1784 v2
  let c1_i32_1978 : BitVec 32 := 1#32
  let v11036 : BitVec 32 := Scalar.muli v10764 c1_i32_1978
  let v11037 : BitVec 32 := Scalar.addi c0_i32_1979 v11036
  v11037.toNat
def k0_dev12 (d0 : Dev nD) : Nat :=
  let c0_i32_2018 : BitVec 32 := 0#32
  let c3_i32_1784 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10764 : BitVec 32 := Scalar.subi c3_i32_1784 v2
  let c1_i32_2017 : BitVec 32 := 1#32
  let v11225 : BitVec 32 := Scalar.muli v10764 c1_i32_2017
  let v11226 : BitVec 32 := Scalar.addi c0_i32_2018 v11225
  v11226.toNat
def k0_dev13 (d0 : Dev nD) : Nat :=
  let c0_i32_2057 : BitVec 32 := 0#32
  let c3_i32_1784 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10764 : BitVec 32 := Scalar.subi c3_i32_1784 v2
  let c1_i32_2056 : BitVec 32 := 1#32
  let v11414 : BitVec 32 := Scalar.muli v10764 c1_i32_2056
  let v11415 : BitVec 32 := Scalar.addi c0_i32_2057 v11414
  v11415.toNat
def k0_dev14 (d0 : Dev nD) : Nat :=
  let c0_i32_2096 : BitVec 32 := 0#32
  let c3_i32_1784 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10764 : BitVec 32 := Scalar.subi c3_i32_1784 v2
  let c1_i32_2095 : BitVec 32 := 1#32
  let v11603 : BitVec 32 := Scalar.muli v10764 c1_i32_2095
  let v11604 : BitVec 32 := Scalar.addi c0_i32_2096 v11603
  v11604.toNat
def k0_dev15 (d0 : Dev nD) : Nat :=
  let c0_i32_2296 : BitVec 32 := 0#32
  let c3_i32_2101 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11613 : BitVec 32 := Scalar.subi c3_i32_2101 v2
  let c1_i32_2295 : BitVec 32 := 1#32
  let v11885 : BitVec 32 := Scalar.muli v11613 c1_i32_2295
  let v11886 : BitVec 32 := Scalar.addi c0_i32_2296 v11885
  v11886.toNat
def k0_dev16 (d0 : Dev nD) : Nat :=
  let c0_i32_2335 : BitVec 32 := 0#32
  let c3_i32_2101 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11613 : BitVec 32 := Scalar.subi c3_i32_2101 v2
  let c1_i32_2334 : BitVec 32 := 1#32
  let v12074 : BitVec 32 := Scalar.muli v11613 c1_i32_2334
  let v12075 : BitVec 32 := Scalar.addi c0_i32_2335 v12074
  v12075.toNat
def k0_dev17 (d0 : Dev nD) : Nat :=
  let c0_i32_2374 : BitVec 32 := 0#32
  let c3_i32_2101 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11613 : BitVec 32 := Scalar.subi c3_i32_2101 v2
  let c1_i32_2373 : BitVec 32 := 1#32
  let v12263 : BitVec 32 := Scalar.muli v11613 c1_i32_2373
  let v12264 : BitVec 32 := Scalar.addi c0_i32_2374 v12263
  v12264.toNat
def k0_dev18 (d0 : Dev nD) : Nat :=
  let c0_i32_2413 : BitVec 32 := 0#32
  let c3_i32_2101 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11613 : BitVec 32 := Scalar.subi c3_i32_2101 v2
  let c1_i32_2412 : BitVec 32 := 1#32
  let v12452 : BitVec 32 := Scalar.muli v11613 c1_i32_2412
  let v12453 : BitVec 32 := Scalar.addi c0_i32_2413 v12452
  v12453.toNat
def k0_dev19 (d0 : Dev nD) : Nat :=
  let c0_i32_2477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2458 : BitVec 32 := 1#32
  let v12481 : BitVec 32 := Scalar.xori v2 c1_i32_2458
  let c1_i32_2476 : BitVec 32 := 1#32
  let v12485 : BitVec 32 := Scalar.muli v12481 c1_i32_2476
  let v12486 : BitVec 32 := Scalar.addi c0_i32_2477 v12485
  v12486.toNat
def k0_dev20 (d0 : Dev nD) : Nat :=
  let c0_i32_2541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2522 : BitVec 32 := 1#32
  let v12514 : BitVec 32 := Scalar.xori v2 c1_i32_2522
  let c1_i32_2540 : BitVec 32 := 1#32
  let v12518 : BitVec 32 := Scalar.muli v12514 c1_i32_2540
  let v12519 : BitVec 32 := Scalar.addi c0_i32_2541 v12518
  v12519.toNat
def k0_dev21 (d0 : Dev nD) : Nat :=
  let c0_i32_2605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2586 : BitVec 32 := 1#32
  let v12547 : BitVec 32 := Scalar.xori v2 c1_i32_2586
  let c1_i32_2604 : BitVec 32 := 1#32
  let v12551 : BitVec 32 := Scalar.muli v12547 c1_i32_2604
  let v12552 : BitVec 32 := Scalar.addi c0_i32_2605 v12551
  v12552.toNat
def k0_dev22 (d0 : Dev nD) : Nat :=
  let c0_i32_2669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2650 : BitVec 32 := 1#32
  let v12580 : BitVec 32 := Scalar.xori v2 c1_i32_2650
  let c1_i32_2668 : BitVec 32 := 1#32
  let v12584 : BitVec 32 := Scalar.muli v12580 c1_i32_2668
  let v12585 : BitVec 32 := Scalar.addi c0_i32_2669 v12584
  v12585.toNat
def k0_dev23 (d0 : Dev nD) : Nat :=
  let c0_i32_2733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2714 : BitVec 32 := 1#32
  let v12613 : BitVec 32 := Scalar.xori v2 c1_i32_2714
  let c1_i32_2732 : BitVec 32 := 1#32
  let v12617 : BitVec 32 := Scalar.muli v12613 c1_i32_2732
  let v12618 : BitVec 32 := Scalar.addi c0_i32_2733 v12617
  v12618.toNat
def k0_dev24 (d0 : Dev nD) : Nat :=
  let c0_i32_2797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2778 : BitVec 32 := 1#32
  let v12646 : BitVec 32 := Scalar.xori v2 c1_i32_2778
  let c1_i32_2796 : BitVec 32 := 1#32
  let v12650 : BitVec 32 := Scalar.muli v12646 c1_i32_2796
  let v12651 : BitVec 32 := Scalar.addi c0_i32_2797 v12650
  v12651.toNat
def k0_dev25 (d0 : Dev nD) : Nat :=
  let c0_i32_2861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2842 : BitVec 32 := 1#32
  let v12679 : BitVec 32 := Scalar.xori v2 c1_i32_2842
  let c1_i32_2860 : BitVec 32 := 1#32
  let v12683 : BitVec 32 := Scalar.muli v12679 c1_i32_2860
  let v12684 : BitVec 32 := Scalar.addi c0_i32_2861 v12683
  v12684.toNat
def k0_dev26 (d0 : Dev nD) : Nat :=
  let c0_i32_2925 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2906 : BitVec 32 := 1#32
  let v12712 : BitVec 32 := Scalar.xori v2 c1_i32_2906
  let c1_i32_2924 : BitVec 32 := 1#32
  let v12716 : BitVec 32 := Scalar.muli v12712 c1_i32_2924
  let v12717 : BitVec 32 := Scalar.addi c0_i32_2925 v12716
  v12717.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩

abbrev nBuf : Space → Nat
  | .hbm => 2
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Ops.lean ====
/-
The vector computations of the kernel as functions of chunks: one compare-exchange stage on a chunk of 256 rows, the
compare-exchange of two whole chunks, and the schedules of such steps a device runs between two exchanges. They are
generic in the float instance, and written over the operations the printed kernel uses, in its order.
-/
module

public import Idealize.ShloMosaic.PureOps

@[expose] public section

noncomputable section

namespace Cert.Bitonic

open Idealize.ShloMosaic

variable {F : FTy → Type} [FloatOps F]

/-- A chunk: 256 rows of half of the columns. -/
abbrev Ch : Shape := ⟨2, ![256, 128]⟩
/-- One flag or number per row of a chunk. -/
abbrev Col : Shape := ⟨2, ![256, 1]⟩
/-- `n` rows of a chunk. -/
abbrev Rows (n : ℕ) : Shape := ⟨2, ![n, 128]⟩

/-! ## The side conditions of the operations -/

theorem iotas_col : Col.Iotas .tc 32 [0] := by decide
theorem bcast_col : Col.Broadcasts Col := by decide
theorem bcast_ch : Col.Broadcasts Ch := by decide
theorem cast_col : Col.ShapeCasts Col := by decide
theorem cast_ch : Ch.ShapeCasts Ch := by decide
theorem slice_tail : ∀ j : Fin 8, Ch.Slices ![2 ^ j.val, 0] (Rows (256 - 2 ^ j.val)) := by decide
theorem slice_first : ∀ j : Fin 8, Ch.Slices ![0, 0] (Rows (2 ^ j.val)) := by decide
theorem slice_last : ∀ j : Fin 8, Ch.Slices ![256 - 2 ^ j.val, 0] (Rows (2 ^ j.val)) := by decide
theorem slice_init : ∀ j : Fin 8, Ch.Slices ![0, 0] (Rows (256 - 2 ^ j.val)) := by decide
theorem concat_up : ∀ j : Fin 8, Shape.Concatenates [Rows (256 - 2 ^ j.val), Rows (2 ^ j.val)] Ch 0 := by decide
theorem concat_down : ∀ j : Fin 8, Shape.Concatenates [Rows (2 ^ j.val), Rows (256 - 2 ^ j.val)] Ch 0 := by decide

/-! ## Masks, one flag per row -/

/-- Row `i`'s flag: is bit `j` of `i` clear? -/
def bit (j : Fin 8) : IVec Col 1 :=
  cmpi .eq (andi (iota .tc Col 32 [0] iotas_col) (broadcast Col (BitVec.ofNat 32 (2 ^ j.val)))) (broadcast Col 0#32)

/-- The flags negated. -/
def neg (k : IVec Col 1) : IVec Col 1 := xori k (constantI Col 1 1#1)

/-- Row `i`'s flag: do bits `k` and `j` of `i` agree? -/
def agree (k j : Fin 8) : IVec Col 1 := neg (xori (bit k) (bit j))

/-- The flags, negated where `flip` is set. -/
def flipped (flip : BitVec 1) (k : IVec Col 1) : IVec Col 1 := xori k (broadcastTo Col (broadcast Col flip) bcast_col)

/-! ## One stage -/

/-- The chunk whose row `i` is the argument's row `i` with bit `j` complemented. -/
def partner (j : Fin 8) (v : FVec F Ch .f32) : FVec F Ch .f32 :=
  select (broadcastTo Ch (shapeCast Col (bit j) cast_col) bcast_ch)
    (concatenate Ch 0 [⟨Rows (256 - 2 ^ j.val), extractStridedSlice _ ![2 ^ j.val, 0] v (slice_tail j)⟩,
      ⟨Rows (2 ^ j.val), extractStridedSlice _ ![0, 0] v (slice_first j)⟩] (concat_up j))
    (concatenate Ch 0 [⟨Rows (2 ^ j.val), extractStridedSlice _ ![256 - 2 ^ j.val, 0] v (slice_last j)⟩,
      ⟨Rows (256 - 2 ^ j.val), extractStridedSlice _ ![0, 0] v (slice_init j)⟩] (concat_down j))

/-- One compare-exchange stage at distance `2 ^ j` inside a chunk: a row whose flag is set keeps the smaller value. -/
def stage (j : Fin 8) (keep : IVec Col 1) (v : FVec F Ch .f32) : FVec F Ch .f32 :=
  select (broadcastTo Ch (shapeCast Col keep cast_col) bcast_ch) (minimumf v (partner j v)) (maximumf v (partner j v))

/-! ## Runs of stages inside a chunk -/

/-- The stages of block size `2 ^ k` for the given distances, in order. -/
def block (flip : BitVec 1) (k : Fin 8) (js : List (Fin 8)) (v : FVec F Ch .f32) : FVec F Ch .f32 :=
  js.foldl (fun w j => stage j (flipped flip (agree k j)) w) v

/-- All stages of block sizes 2 to 128. -/
def small (flip : BitVec 1) (v : FVec F Ch .f32) : FVec F Ch .f32 :=
  block flip 7 [6, 5, 4, 3, 2, 1, 0] <| block flip 6 [5, 4, 3, 2, 1, 0] <| block flip 5 [4, 3, 2, 1, 0] <|
    block flip 4 [3, 2, 1, 0] <| block flip 3 [2, 1, 0] <| block flip 2 [1, 0] <| block flip 1 [0] v

/-- The distances 128 down to 1. -/
def dists : List (Fin 8) := [7, 6, 5, 4, 3, 2, 1, 0]

/-- Merging a chunk, upwards unless `flip`. -/
def tailUp (flip : BitVec 1) (v : FVec F Ch .f32) : FVec F Ch .f32 :=
  dists.foldl (fun w j => stage j (flipped flip (bit j)) w) v
/-- Merging a chunk, downwards unless `flip`. -/
def tailDown (flip : BitVec 1) (v : FVec F Ch .f32) : FVec F Ch .f32 :=
  dists.foldl (fun w j => stage j (flipped flip (neg (bit j))) w) v
/-- Merging a chunk upwards. -/
def tail (v : FVec F Ch .f32) : FVec F Ch .f32 := dists.foldl (fun w j => stage j (bit j) w) v

/-! ## Steps between whole chunks -/

/-- The lower chunk of a compare-exchange of two chunks. -/
def crossLo (flip : BitVec 1) (a b : FVec F Ch .f32) : FVec F Ch .f32 := Scalar.select flip (maximumf a b) (minimumf a b)
/-- The upper one. -/
def crossHi (flip : BitVec 1) (a b : FVec F Ch .f32) : FVec F Ch .f32 := Scalar.select flip (minimumf a b) (maximumf a b)
/-- A device's own chunk against its partner's: the smaller values if `km`. -/
def combine (km : BitVec 1) (v t : FVec F Ch .f32) : FVec F Ch .f32 := Scalar.select km (minimumf v t) (maximumf v t)

/-- Four chunks: a device's 1024 rows of one column half. -/
structure Quad (F : FTy → Type) where
  a : FVec F Ch .f32
  b : FVec F Ch .f32
  c : FVec F Ch .f32
  d : FVec F Ch .f32

/-- The four chunks by number. -/
def Quad.at (q : Quad F) : Fin 4 → FVec F Ch .f32
  | 0 => q.a
  | 1 => q.b
  | 2 => q.c
  | 3 => q.d

/-- Compare-exchanges at distance 256: each even chunk against the next one. -/
def cross1 (flip flip' : BitVec 1) (q : Quad F) : Quad F :=
  ⟨crossLo flip q.a q.b, crossHi flip q.a q.b, crossLo flip' q.c q.d, crossHi flip' q.c q.d⟩
/-- Compare-exchanges at distance 512. -/
def cross2 (flip : BitVec 1) (q : Quad F) : Quad F :=
  ⟨crossLo flip q.a q.c, crossLo flip q.b q.d, crossHi flip q.a q.c, crossHi flip q.b q.d⟩
/-- Merging the four chunks down to the chunk size. -/
def crossAll (flip : BitVec 1) (q : Quad F) : Quad F := cross1 flip flip (cross2 flip q)

/-- A device's sort of its own 1024 rows, up to the last merge inside the chunks. -/
def sortPre (flip notflip : BitVec 1) (x : Quad F) : Quad F :=
  let s : Quad F := ⟨tailUp flip (small flip x.a), tailDown flip (small flip x.b), tailUp flip (small flip x.c), tailDown flip (small flip x.d)⟩
  let r : Quad F := cross1 flip notflip s
  let t : Quad F := ⟨tailUp flip r.a, tailUp flip r.b, tailDown flip r.c, tailDown flip r.d⟩
  crossAll flip t

/-- The last merge inside each chunk. -/
def Quad.tailUp (flip : BitVec 1) (q : Quad F) : Quad F :=
  ⟨Bitonic.tailUp flip q.a, Bitonic.tailUp flip q.b, Bitonic.tailUp flip q.c, Bitonic.tailUp flip q.d⟩
/-- The last merge inside each chunk, upwards. -/
def Quad.tail (q : Quad F) : Quad F := ⟨Bitonic.tail q.a, Bitonic.tail q.b, Bitonic.tail q.c, Bitonic.tail q.d⟩
/-- Each chunk against the partner's chunk of the same number. -/
def Quad.combine (km : BitVec 1) (v t : Quad F) : Quad F :=
  ⟨Bitonic.combine km v.a t.a, Bitonic.combine km v.b t.b, Bitonic.combine km v.c t.c, Bitonic.combine km v.d t.d⟩
/-- The compare-exchanges of the four chunks at distances 512 and 256, upwards. -/
def crossUp (q : Quad F) : Quad F :=
  let r : Quad F := ⟨minimumf q.a q.c, minimumf q.b q.d, maximumf q.a q.c, maximumf q.b q.d⟩
  ⟨minimumf r.a r.b, maximumf r.a r.b, minimumf r.c r.d, maximumf r.c r.d⟩

end Cert.Bitonic

end
-- ==== Proof.KernelIdealBody.lean ====
/-
The kernel's body restated over the chunk computations of `Ops.lean`: the handshake with both neighbours, the local sort
and the sends of its chunks, the two middle exchanges, and the last exchange with the stores of the result. `body_eq` says
that the printed body is this program.
-/
module

public import proofs.«01_k».proof.Proof.Ops
public import proofs.«01_k».proof.Proof.Gen.KernelIdeal
public import Idealize.ShloMosaic.Lib.Tactic

@[expose] public section

noncomputable section

namespace Cert.KernelIdealProof

open Cert.KernelIdeal Cert.KernelIdeal.Gen Cert.Bitonic
open Idealize.ShloMosaic Idealize.SL.Sem
open Idealize.ShloMosaic.TcCoe

variable {F : FTy → Type} [FloatOps F]

/-- A program of the kernel. -/
abbrev KProg (F : FTy → Type) [FloatOps F] (α : Type) := Prog (TpuEff nD τ sig (Elt F) Λ₀ .tc) α

/-! ## The devices, the flags, the places -/

/-- The partner of the first and the last exchange. -/
abbrev pa (d : Dev nD) : Dev nD := ⟨k0_dev1 d, Facts₀.k0_dev1_lt d⟩
/-- The partner of the middle exchange. -/
abbrev pb (d : Dev nD) : Dev nD := ⟨k0_dev2 d, Facts₀.k0_dev2_lt d⟩

/-- The device's position on the mesh, as a word. -/
def pos (d : Dev nD) : BitVec 32 := Scalar.remsi (Scalar.divsi (Dev.word d) 1#32) 4#32
/-- Its Gray-code word. -/
def gray (d : Dev nD) : BitVec 32 := Scalar.xori (pos d) (Scalar.shrsi (pos d) 1#32)
/-- Does the device sort its own rows downwards? -/
def flipL (d : Dev nD) : BitVec 1 := Scalar.cmpi .eq (Scalar.andi (gray d) 1#32) 1#32
def notFlipL (d : Dev nD) : BitVec 1 := Scalar.xori (flipL d) 1#1
/-- Does it keep the smaller values of the first, the second, the third exchange? -/
def km1 (d : Dev nD) : BitVec 1 :=
  Scalar.xori (Scalar.xori (Scalar.cmpi .eq (Scalar.andi (gray d) 1#32) 0#32) (Scalar.cmpi .eq (Scalar.andi (gray d) 2#32) 0#32)) 1#1
def km2 (d : Dev nD) : BitVec 1 := Scalar.cmpi .eq (Scalar.andi (gray d) 2#32) 0#32
def km3 (d : Dev nD) : BitVec 1 := Scalar.cmpi .eq (Scalar.andi (pos d) 1#32) 0#32
/-- Does it merge downwards after the first exchange? -/
def flip1 (d : Dev nD) : BitVec 1 := Scalar.cmpi .ne (Scalar.andi (gray d) 2#32) 0#32

/-- The barrier semaphore. -/
abbrev barS : Sem sig := (SemArray.scalar (sig.barrier 0 rfl) : Sems sig S_).sem

theorem inb_slot (p : Fin 3) (h : Fin 2) (c : Fin 4) :
    ∀ a, (![p.val, h.val, c.val, 0, 0] : Fin 5 → Nat) a + S1x1x1x256x128.size a ≤ S3x2x4x256x128.size a := by
  revert p h c; decide
theorem inb_sem (p : Fin 3) (h : Fin 2) (c : Fin 4) :
    ∀ a, (![p.val, h.val, c.val] : Fin 3 → Nat) a + S1x1x1.size a ≤ S3x2x4.size a := by
  revert p h c; decide
theorem inb_rows (h : Fin 2) (c : Fin 4) :
    ∀ a, (![256 * c.val, 128 * h.val] : Fin 2 → Nat) a + S256x128.size a ≤ S1024x256.size a := by
  revert h c; decide

/-- The rectangle of one chunk in a scratch buffer. -/
abbrev slotR (p : Fin 3) (h : Fin 2) (c : Fin 4) : Rect S3x2x4x256x128 :=
  Rect.unit (s := S3x2x4x256x128) ![p.val, h.val, c.val, 0, 0] S1x1x1x256x128.size (inb_slot p h c)
/-- The rectangle of one chunk in the device's rows. -/
abbrev rowsR (h : Fin 2) (c : Fin 4) : Rect S1024x256 :=
  Rect.unit (s := S1024x256) ![256 * c.val, 128 * h.val] S256x128.size (inb_rows h c)
/-- One chunk of a scratch buffer as a memory reference. -/
abbrev slotM (b : Memref sig .tc .vmem S3x2x4x256x128 .f32) (p : Fin 3) (h : Fin 2) (c : Fin 4) : Memref sig .tc .vmem S256x128 .f32 :=
  (b.slice (slotR p h c) (fun _ => rfl)).squeeze S256x128 Facts₀.squeezes_S1x1x1x256x128_S256x128
/-- One semaphore of an array. -/
abbrev slotS (s : DmaSems sig S3x2x4) (p : Fin 3) (h : Fin 2) (c : Fin 4) : DmaSem sig :=
  ((s.slice (Rect.unit (s := S3x2x4) ![p.val, h.val, c.val] S1x1x1.size (inb_sem p h c))).squeeze S_ Facts₀.squeezes_S1x1x1_S_).sem

/-! ## The steps of the program -/

section Steps

variable (xM oM : Memref sig .tc .vmem S1024x256 .f32) (stM exM : Memref sig .tc .vmem S3x2x4x256x128 .f32) (sS rS : DmaSems sig S3x2x4)

/-- Read one chunk of the device's rows. -/
def loadX (h : Fin 2) (c : Fin 4) : KProg F (FVec F Ch .f32) := do
  let v ← Prog.lift (.load xM (rowsR h c).toLoadRect (View.loadsAt_vmem Facts₀.h_S256x128))
  pure (shapeCast Ch v cast_ch)

/-- Read the four chunks of a column half. -/
def loadQ (h : Fin 2) : KProg F (Quad F) := do
  let a ← loadX xM h 0
  let b ← loadX xM h 1
  let c ← loadX xM h 2
  let d ← loadX xM h 3
  pure ⟨a, b, c, d⟩

/-- Put a chunk in its staging slot and start its transfer to the device `n`. -/
def send (p : Fin 3) (h : Fin 2) (c : Fin 4) (n : Dev nD) (v : FVec F Ch .f32) : KProg F PUnit := do
  let _ ← Prog.lift (.load stM (slotR p h c).toLoadRect (View.loadsAt_vmem Facts₀.h_S1x1x1x256x128))
  Prog.lift (.store stM (slotR p h c) (shapeCast S1x1x1x256x128 v Facts₀.shapeCasts_S256x128_S1x1x1x256x128) Finset.univ
    (View.stores_vmem_bits_univ Facts₀.h_S1x1x1x256x128 rfl) (.inl rfl))
  Prog.lift (.enqueueDma (slotM stM p h c) (.remote (Dev.tc n) (slotM exM p h c) (.dma (slotS sS p h c))) (.dma (slotS rS p h c))
    ((View.wordExact_bits rfl).reshape _ _) ((View.wordExact_bits rfl).reshape _ _) ⟨⟨rfl, Or.inl rfl⟩, trivial⟩)

/-- Wait for a chunk's own transfer and for the partner's, and read what the partner sent. -/
def recv (p : Fin 3) (h : Fin 2) (c : Fin 4) : KProg F (FVec F Ch .f32) := do
  Prog.lift (.waitDma2 (slotS sS p h c) (slotM exM p h c) (slotM stM p h c) ((View.wordExact_bits rfl).reshape _ _) ((View.wordExact_bits rfl).reshape _ _))
  Prog.lift (.waitDma2 (slotS rS p h c) (slotM stM p h c) (slotM exM p h c) ((View.wordExact_bits rfl).reshape _ _) ((View.wordExact_bits rfl).reshape _ _))
  let v ← Prog.lift (.load exM (slotR p h c).toLoadRect (View.loadsAt_vmem Facts₀.h_S1x1x1x256x128))
  pure (shapeCast Ch v Facts₀.shapeCasts_S1x1x1x256x128_S256x128)

/-- Write one chunk of the device's result. -/
def storeO (h : Fin 2) (c : Fin 4) (v : FVec F Ch .f32) : KProg F PUnit := do
  let _ ← Prog.lift (.load oM (rowsR h c).toLoadRect (View.loadsAt_vmem Facts₀.h_S256x128))
  Prog.lift (.store oM (rowsR h c) v Finset.univ (View.stores_vmem_bits_univ Facts₀.h_S256x128 rfl) (.inl rfl))

/-- Send the four chunks of a column half, each after its last merge. -/
def sendQ (p : Fin 3) (h : Fin 2) (n : Dev nD) (q : Quad F) : KProg F PUnit := do
  send stM exM sS rS p h 0 n q.a
  send stM exM sS rS p h 1 n q.b
  send stM exM sS rS p h 2 n q.c
  send stM exM sS rS p h 3 n q.d

/-- Receive the four chunks of a column half. -/
def recvQ (p : Fin 3) (h : Fin 2) : KProg F (Quad F) := do
  let a ← recv stM exM sS rS p h 0
  let b ← recv stM exM sS rS p h 1
  let c ← recv stM exM sS rS p h 2
  let d ← recv stM exM sS rS p h 3
  pure ⟨a, b, c, d⟩

/-- The middle exchange of one chunk: receive, keep the smaller or larger values, and send them on. -/
def swap (h : Fin 2) (c : Fin 4) (km : BitVec 1) (n : Dev nD) (v : FVec F Ch .f32) : KProg F (FVec F Ch .f32) := do
  let t ← recv stM exM sS rS 1 h c
  send stM exM sS rS 2 h c n (combine km v t)
  pure (combine km v t)

/-- The middle exchange of a column half. -/
def swapQ (h : Fin 2) (km : BitVec 1) (n : Dev nD) (q : Quad F) : KProg F (Quad F) := do
  let a ← swap stM exM sS rS h 0 km n q.a
  let b ← swap stM exM sS rS h 1 km n q.b
  let c ← swap stM exM sS rS h 2 km n q.c
  let d ← swap stM exM sS rS h 3 km n q.d
  pure ⟨a, b, c, d⟩

/-- Write the four chunks of a column half of the result. -/
def storeQ (h : Fin 2) (q : Quad F) : KProg F PUnit := do
  storeO oM h 0 q.a
  storeO oM h 1 q.b
  storeO oM h 2 q.c
  storeO oM h 3 q.d

/-- Both neighbours are told that this device is in the kernel, and it waits to be told so by both. -/
def handshake (d : Dev nD) : KProg F PUnit := do
  semSignalWord (pa d) barS 1#32
  semSignalWord (pb d) barS 1#32
  semWaitWord barS 2#32

/-- The local sort of a column half, its chunks sent. -/
def opening (d : Dev nD) (h : Fin 2) : KProg F (Quad F) := do
  let x ← loadQ xM h
  sendQ stM exM sS rS 0 h (pa d) ((sortPre (flipL d) (notFlipL d) x).tailUp (flipL d))
  pure ((sortPre (flipL d) (notFlipL d) x).tailUp (flipL d))

/-- The first exchange of a column half and the merge after it, its chunks sent. -/
def second (d : Dev nD) (h : Fin 2) (v : Quad F) : KProg F (Quad F) := do
  let t ← recvQ stM exM sS rS 0 h
  sendQ stM exM sS rS 1 h (pb d) ((crossAll (flip1 d) (v.combine (km1 d) t)).tailUp (flip1 d))
  pure ((crossAll (flip1 d) (v.combine (km1 d) t)).tailUp (flip1 d))

/-- The last exchange of a column half and the merge after it, stored. -/
def closing (d : Dev nD) (h : Fin 2) (v : Quad F) : KProg F PUnit := do
  let t ← recvQ stM exM sS rS 2 h
  storeQ oM h (crossUp (v.combine (km3 d) t)).tail

/-- The whole body on device `d`. -/
def bodyAt (d : Dev nD) : KProg F PUnit := do
  handshake d
  let a0 ← opening xM stM exM sS rS d 0
  let b0 ← opening xM stM exM sS rS d 1
  let a1 ← second stM exM sS rS d 0 a0
  let b1 ← second stM exM sS rS d 1 b0
  let a2 ← swapQ stM exM sS rS 0 (km2 d) (pa d) a1
  let b2 ← swapQ stM exM sS rS 1 (km2 d) (pa d) b1
  closing oM stM exM sS rS d 0 a2
  closing oM stM exM sS rS d 1 b2

/-- The whole body. -/
def body : KProg F PUnit := do
  let d ← Prog.lift .deviceId
  bodyAt xM oM stM exM sS rS d

end Steps

set_option maxRecDepth 100000 in
/-- The printed body is the program above. -/
theorem body_eq (xM : Memref sig .tc .vmem S1024x256 .f32) (hx : xM.IsWhole) (oM : Memref sig .tc .vmem S1024x256 .f32) (ho : oM.IsWhole)
    (stM : Memref sig .tc .vmem S3x2x4x256x128 .f32) (hst : stM.IsWhole) (exM : Memref sig .tc .vmem S3x2x4x256x128 .f32) (hex : exM.IsWhole)
    (sS rS : DmaSems sig S3x2x4) :
    cc0_body (F := F) xM hx oM ho stM hst exM hex sS rS = body xM oM stM exM sS rS := by
  sl_kernel_rfl

end Cert.KernelIdealProof

end
-- ==== Proof.KernelIdealProtocol.lean ====
/-
The exchange protocol of the kernel: the semaphore cells of a device, what each exchange carries, the schedule of duties
with the contents handed over, and the levels that order the waits.

Per device there are one barrier cell (both neighbours signal it once) and, for each of the 24 slots (exchange, column
half, chunk), a send cell and a receive cell. A neighbour's barrier signal hands over the landing slots this device will
write on that neighbour; a transfer hands the staging slot back to its sender and the landing slot, holding the chunk
sent, to its receiver.
-/
module

public import proofs.«01_k».proof.Proof.KernelIdealBody
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchanges' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The partners -/

theorem pa_pa (c : Dev nD) : pa (pa c) = c := by revert c; decide +kernel
theorem pb_pb (c : Dev nD) : pb (pb c) = c := by revert c; decide +kernel

/-- A slot: exchange, column half, chunk. -/
abbrev Slot : Type := Fin 3 × Fin 2 × Fin 4

/-- Whom a device exchanges with. -/
def mate (p : Fin 3) (c : Dev nD) : Dev nD := if p = 1 then pb c else pa c

theorem mate_mate (p : Fin 3) (c : Dev nD) : mate p (mate p c) = c := by
  unfold mate; split
  · exact pb_pb c
  · exact pa_pa c

/-! ## Memory references and cells -/

abbrev xM : Memref sig .tc .vmem S1024x256 .f32 := Memref.whole cc0_stg0_0
abbrev oM : Memref sig .tc .vmem S1024x256 .f32 := Memref.whole cc0_stg1_0
abbrev stM : Memref sig .tc .vmem S3x2x4x256x128 .f32 := Memref.whole cc0_scratch0
abbrev exM : Memref sig .tc .vmem S3x2x4x256x128 .f32 := Memref.whole cc0_scratch1

/-- The send and the receive semaphore of a slot. -/
abbrev sndS (s : Slot) : DmaSem sig := slotS cc0_scratch2 s.1 s.2.1 s.2.2
abbrev rcvS (s : Slot) : DmaSem sig := slotS cc0_scratch3 s.1 s.2.1 s.2.2

abbrev barCell (c : Dev nD) : GSem nD τ sig := ((c : Thread nD τ), .reg barS)
abbrev sendCell (c : Dev nD) (s : Slot) : GSem nD τ sig := ((c : Thread nD τ), .dma (sndS s))
abbrev recvCell (c : Dev nD) (s : Slot) : GSem nD τ sig := ((c : Thread nD τ), .dma (rcvS s))

theorem sndS_val (s : Slot) : (sndS s).val = 2 + (8 * s.1.val + 4 * s.2.1.val + s.2.2.val) := by
  obtain ⟨p, h, c⟩ := s; revert p h c; decide +kernel
theorem rcvS_val (s : Slot) : (rcvS s).val = 26 + (8 * s.1.val + 4 * s.2.1.val + s.2.2.val) := by
  obtain ⟨p, h, c⟩ := s; revert p h c; decide +kernel

theorem slot_ext {s t : Slot} (h : 8 * s.1.val + 4 * s.2.1.val + s.2.2.val = 8 * t.1.val + 4 * t.2.1.val + t.2.2.val) : s = t := by
  obtain ⟨p, a, i⟩ := s; obtain ⟨q, b, j⟩ := t
  have hp := p.isLt; have ha := a.isLt; have hi := i.isLt; have hq := q.isLt; have hb := b.isLt; have hj := j.isLt
  dsimp only at h
  refine Prod.ext (Fin.ext ?_) (Prod.ext (Fin.ext ?_) (Fin.ext ?_)) <;> dsimp only <;> omega

theorem sndS_inj {s t : Slot} (h : sndS s = sndS t) : s = t :=
  slot_ext (by have := congrArg Fin.val h; rw [sndS_val, sndS_val] at this; omega)
theorem rcvS_inj {s t : Slot} (h : rcvS s = rcvS t) : s = t :=
  slot_ext (by have := congrArg Fin.val h; rw [rcvS_val, rcvS_val] at this; omega)
theorem sndS_ne_rcvS (s t : Slot) : sndS s ≠ rcvS t := fun h => by
  have := congrArg Fin.val h; rw [sndS_val, rcvS_val] at this
  obtain ⟨p, a, i⟩ := s; have hp := p.isLt; have ha := a.isLt; have hi := i.isLt; dsimp only at this; omega

theorem send_ne_bar (s : Slot) : (SemLoc.dma (sndS s) : SemLoc sig) ≠ .reg barS := fun h => by cases h
theorem recv_ne_bar (s : Slot) : (SemLoc.dma (rcvS s) : SemLoc sig) ≠ .reg barS := fun h => by cases h
theorem send_inj {s t : Slot} (h : (SemLoc.dma (sndS s) : SemLoc sig) = .dma (sndS t)) : s = t := sndS_inj (SemLoc.dma.inj h)
theorem recv_inj {s t : Slot} (h : (SemLoc.dma (rcvS s) : SemLoc sig) = .dma (rcvS t)) : s = t := rcvS_inj (SemLoc.dma.inj h)
theorem send_ne_recv (s t : Slot) : (SemLoc.dma (sndS s) : SemLoc sig) ≠ .dma (rcvS t) := fun h => sndS_ne_rcvS s t (SemLoc.dma.inj h)

/-- The semaphores of the kernel itself: send and receive, by slot; -/
abbrev osem : Slot ⊕ Slot → SemLoc sig := fun | .inl s => .dma (sndS s) | .inr s => .dma (rcvS s)
/-- with the barrier. -/
abbrev csem : Unit ⊕ (Slot ⊕ Slot) → SemLoc sig := fun | .inl _ => .reg barS | .inr k => osem k
abbrev Key : Type := Unit ⊕ (Slot ⊕ Slot)
abbrev kcell (ck : Dev nD × Key) : GSem nD τ sig := ((ck.1 : Thread nD τ), csem ck.2)

theorem osem_inj : Function.Injective osem := by
  rintro (s | s) (t | t) h
  · exact congrArg _ (send_inj h)
  · exact absurd h (send_ne_recv s t)
  · exact absurd h.symm (send_ne_recv t s)
  · exact congrArg _ (recv_inj h)
theorem osem_ne_bar (k : Slot ⊕ Slot) : osem k ≠ .reg barS := by
  rcases k with s | s
  · exact send_ne_bar s
  · exact recv_ne_bar s

/-- The credit of one chunk. -/
abbrev N : ℕ := (slotM exM 0 0 0).view.dmaCredit
theorem N_pos : 0 < N := View.dmaCredit_pos _ (by decide)

/-! ## Contents -/

/-- The rows a device is given, in its first staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- One chunk of given rows. -/
def chunkOf (f : (cc0_stg0_0 : Ref sig .tc).ty.Contents (Elt F)) (h : Fin 2) (i : Fin 4) : FVec F Ch .f32 :=
  shapeCast Ch (xM.view.readAt (Elt F) (rowsR h i).toLoadRect f) cast_ch
/-- The four chunks of a column half. -/
def quadOf (f : (cc0_stg0_0 : Ref sig .tc).ty.Contents (Elt F)) (h : Fin 2) : Quad F :=
  ⟨chunkOf f h 0, chunkOf f h 1, chunkOf f h 2, chunkOf f h 3⟩

/-- What a device holds after its own sort, -/
def v0 (c : Dev nD) (h : Fin 2) : Quad F := (sortPre (flipL c) (notFlipL c) (quadOf (xstg m ρ c) h)).tailUp (flipL c)
/-- after the first exchange and its merge, -/
def v1 (c : Dev nD) (h : Fin 2) : Quad F :=
  (crossAll (flip1 c) ((v0 m ρ c h).combine (km1 c) (v0 m ρ (pa c) h))).tailUp (flip1 c)
/-- after the middle exchange, -/
def v2 (c : Dev nD) (h : Fin 2) : Quad F := (v1 m ρ c h).combine (km2 c) (v1 m ρ (pb c) h)
/-- and at the end. -/
def v3 (c : Dev nD) (h : Fin 2) : Quad F := (crossUp ((v2 m ρ c h).combine (km3 c) (v2 m ρ (pa c) h))).tail

/-- The chunk a device sends in a slot. -/
def sentVal (c : Dev nD) (s : Slot) : FVec F Ch .f32 :=
  match s.1 with
  | 0 => (v0 m ρ c s.2.1).at s.2.2
  | 1 => (v1 m ρ c s.2.1).at s.2.2
  | 2 => (v2 m ρ c s.2.1).at s.2.2

/-! ## The scratch slots -/

/-- A slot of the staging buffer at contents `f`, -/
def stPts (c : Dev nD) (s : Slot) (f : Buf (Elt F) ((c : Thread nD τ).loc cc0_scratch0)) : sProp 𝕄 :=
  (slotM stM s.1 s.2.1 s.2.2).view.loc (c : Thread nD τ) ↦[(slotM stM s.1 s.2.1 s.2.2).view.set]{fullShare} f
/-- and of the landing buffer. -/
def exPts (c : Dev nD) (s : Slot) (f : Buf (Elt F) ((c : Thread nD τ).loc cc0_scratch1)) : sProp 𝕄 :=
  (slotM exM s.1 s.2.1 s.2.2).view.loc (c : Thread nD τ) ↦[(slotM exM s.1 s.2.1 s.2.2).view.set]{fullShare} f

/-- The slots at some contents. -/
def stAny (c : Dev nD) (s : Slot) : sProp 𝕄 := iprop(∃ f, stPts c s f)
def exAny (c : Dev nD) (s : Slot) : sProp 𝕄 := iprop(∃ f, exPts c s f)
/-- A landing slot that reads as the chunk `v`. -/
def exHolds (c : Dev nD) (s : Slot) (v : FVec F Ch .f32) : sProp 𝕄 :=
  iprop(∃ f, ⌜(slotM exM s.1 s.2.1 s.2.2).view.read (Elt F) f = v⌝ ∗ exPts c s f)

omit [FloatOps F] in
instance stAny_storable (c : Dev nD) (s : Slot) : BI.Storable (upEmb : UEmb _ 𝕄) (stAny (F := F) c s) := by
  unfold stAny stPts; infer_instance
omit [FloatOps F] in
instance exAny_storable (c : Dev nD) (s : Slot) : BI.Storable (upEmb : UEmb _ 𝕄) (exAny (F := F) c s) := by
  unfold exAny exPts; infer_instance
omit [FloatOps F] in
instance exHolds_storable (c : Dev nD) (s : Slot) (v) : BI.Storable (upEmb : UEmb _ 𝕄) (exHolds (F := F) c s v) := by
  unfold exHolds exPts; infer_instance

/-- The four slots of a column half of an exchange. -/
def four (Φ : Slot → sProp 𝕄) (p : Fin 3) (h : Fin 2) : sProp 𝕄 := iprop(Φ (p, h, 0) ∗ Φ (p, h, 1) ∗ Φ (p, h, 2) ∗ Φ (p, h, 3))

omit [FloatOps F] in
theorem bigSep_slots (Φ : Slot → sProp 𝕄) :
    bigSep Finset.univ Φ = iprop((four Φ 0 0 ∗ four Φ 0 1) ∗ (four Φ 1 0 ∗ four Φ 1 1) ∗ (four Φ 2 0 ∗ four Φ 2 1)) := by
  have h4 : ∀ Ψ : Fin 4 → sProp 𝕄, bigSep Finset.univ Ψ = iprop(Ψ 0 ∗ Ψ 1 ∗ Ψ 2 ∗ Ψ 3) := bigSep_univ_eq_bigSepL [0, 1, 2, 3] (by decide) (by decide)
  have h2 : ∀ Ψ : Fin 2 → sProp 𝕄, bigSep Finset.univ Ψ = iprop(Ψ 0 ∗ Ψ 1) := bigSep_univ_eq_bigSepL [0, 1] (by decide) (by decide)
  have h3 : ∀ Ψ : Fin 3 → sProp 𝕄, bigSep Finset.univ Ψ = iprop(Ψ 0 ∗ Ψ 1 ∗ Ψ 2) := bigSep_univ_eq_bigSepL [0, 1, 2] (by decide) (by decide)
  rw [bigSep_univ_prod, h3]
  simp only [bigSep_univ_prod, h2, h4]
  rfl

/-- The landing slots a device is let write on a partner. -/
def roomA (c : Dev nD) : sProp 𝕄 := iprop((four (exAny (F := F) c) 0 0 ∗ four (exAny c) 0 1) ∗ (four (exAny c) 2 0 ∗ four (exAny c) 2 1))
def roomB (c : Dev nD) : sProp 𝕄 := iprop(four (exAny (F := F) c) 1 0 ∗ four (exAny c) 1 1)

omit [FloatOps F] in
instance four_storable (Φ : Slot → sProp 𝕄) [∀ s, BI.Storable (upEmb : UEmb _ 𝕄) (Φ s)] (p h) : BI.Storable (upEmb : UEmb _ 𝕄) (four Φ p h) := by
  unfold four; infer_instance

/-! ## The schedule -/

abbrev IsBar (g : GSem nD τ sig) : Prop := g.1.2 = .tc ∧ g.2 = .reg barS
abbrev IsXfer (g : GSem nD τ sig) : Prop := g.1.2 = .tc ∧ ∃ k, g.2 = osem k

open Classical in
/-- What a cell's duty hands over. A barrier cell: the landing slots on the partner who signalled; a send cell: the staging
    slot; a receive cell: the landing slot holding the partner's chunk. -/
def pay (c : Dev nD) (sm : SemLoc sig) (d : Bool) : sProp 𝕄 :=
  if h : ∃ k, sm = osem k then
    match h.choose with
    | .inl s => stAny c s
    | .inr s => exHolds c s (sentVal m ρ (mate s.1 c) s)
  else if d then roomB (pb c) else roomA (pa c)

theorem pay_send (c : Dev nD) (s : Slot) (d : Bool) : pay m ρ c (.dma (sndS s)) d = stAny c s := by
  have h : ∃ k, (SemLoc.dma (sndS s) : SemLoc sig) = osem k := ⟨.inl s, rfl⟩
  unfold pay; rw [dif_pos h]
  have : h.choose = .inl s := osem_inj h.choose_spec.symm
  rw [this]
theorem pay_recv (c : Dev nD) (s : Slot) (d : Bool) : pay m ρ c (.dma (rcvS s)) d = exHolds c s (sentVal m ρ (mate s.1 c) s) := by
  have h : ∃ k, (SemLoc.dma (rcvS s) : SemLoc sig) = osem k := ⟨.inr s, rfl⟩
  unfold pay; rw [dif_pos h]
  have : h.choose = .inr s := osem_inj h.choose_spec.symm
  rw [this]
theorem pay_bar (c : Dev nD) (d : Bool) : pay m ρ c (.reg barS) d = if d then roomB (pb c) else roomA (pa c) := by
  unfold pay; rw [dif_neg (fun ⟨k, h⟩ => osem_ne_bar k h.symm)]

open Classical in
/-- One round: a barrier cell has the duties `false` (from the first partner) and `true` (from the second) of one unit
    each; a send or receive cell the duty `false` of one chunk's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := pay m ρ g.1.1 g.2 d
  amount_pos g _ _ _ := by
    by_cases h : g.2 = .reg barS
    · rw [if_pos h]; exact Nat.one_pos
    · rw [if_neg h]; exact N_pos

instance sched_storable (g : GSem nD τ sig) (r : ℕ) (d : Bool) : BI.Storable (upEmb : UEmb _ 𝕄) ((sched (F := F) m ρ).payload g r d) := by
  show BI.Storable upEmb (pay m ρ g.1.1 g.2 d)
  unfold pay roomA roomB
  split
  · split <;> infer_instance
  · split <;> infer_instance

section Sched
variable (c : Dev nD) (s : Slot)

theorem duties_bar : (sched (F := F) m ρ).duties (barCell c) 0 = Finset.univ := by dsimp only [sched]; exact if_pos ⟨rfl, rfl, rfl⟩
theorem duties_own (k : Slot ⊕ Slot) : (sched (F := F) m ρ).duties ((c : Thread nD τ), osem k) 0 = {false} := by
  dsimp only [sched]; rw [if_neg (fun h => osem_ne_bar k h.2.2)]; exact if_pos ⟨rfl, rfl, k, rfl⟩
theorem duties_send : (sched (F := F) m ρ).duties (sendCell c s) 0 = {false} := duties_own m ρ c (.inl s)
theorem duties_recv : (sched (F := F) m ρ).duties (recvCell c s) 0 = {false} := duties_own m ρ c (.inr s)
theorem duties_later (g : GSem nD τ sig) : ∀ r, 1 ≤ r → (sched (F := F) m ρ).duties g r = ∅ :=
  fun r hr => by dsimp only [sched]; rw [if_neg fun h => by omega, if_neg fun h => by omega]

theorem amount_bar (d : Bool) : (sched (F := F) m ρ).amount (barCell c) 0 d = 1 := by dsimp only [sched]; exact if_pos rfl
theorem amount_send (d : Bool) : (sched (F := F) m ρ).amount (sendCell c s) 0 d = N := by dsimp only [sched]; exact if_neg (send_ne_bar s)
theorem amount_recv (d : Bool) : (sched (F := F) m ρ).amount (recvCell c s) 0 d = N := by dsimp only [sched]; exact if_neg (recv_ne_bar s)

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (sched (F := F) m ρ).expect (sendCell c s) 0 = N := by
  unfold Schedule.expect Schedule.amountOf; rw [duties_send, Finset.sum_singleton, amount_send]
theorem expect_recv : (sched (F := F) m ρ).expect (recvCell c s) 0 = N := by
  unfold Schedule.expect Schedule.amountOf; rw [duties_recv, Finset.sum_singleton, amount_recv]

theorem payload_send (d : Bool) : (sched (F := F) m ρ).payload (sendCell c s) 0 d = stAny c s := pay_send m ρ c s d
theorem payload_recv (d : Bool) : (sched (F := F) m ρ).payload (recvCell c s) 0 d = exHolds c s (sentVal m ρ (mate s.1 c) s) := pay_recv m ρ c s d
theorem payload_bar_false : (sched (F := F) m ρ).payload (barCell c) 0 false = roomA (pa c) := (pay_bar m ρ c false).trans (if_neg Bool.false_ne_true)
theorem payload_bar_true : (sched (F := F) m ρ).payload (barCell c) 0 true = roomB (pb c) := (pay_bar m ρ c true).trans (if_pos rfl)

/-- What a wait for a whole round hands over. -/
theorem rest_bar : bigSep ((sched (F := F) m ρ).duties (barCell c) 0 \ ∅) (fun d => (sched (F := F) m ρ).payload (barCell c) 0 d)
    = iprop(roomA (pa c) ∗ roomB (pb c)) := by
  rw [Finset.sdiff_empty, duties_bar, bigSep_univ_eq_bigSepL [false, true] (by decide) (by decide), bigSepL_cons_cons, bigSepL_singleton,
    payload_bar_false, payload_bar_true]
  rfl
theorem rest_send : bigSep ((sched (F := F) m ρ).duties (sendCell c s) 0 \ ∅) (fun d => (sched (F := F) m ρ).payload (sendCell c s) 0 d) = stAny c s := by
  rw [Finset.sdiff_empty, duties_send, bigSep_singleton, payload_send]
theorem rest_recv : bigSep ((sched (F := F) m ρ).duties (recvCell c s) 0 \ ∅) (fun d => (sched (F := F) m ρ).payload (recvCell c s) 0 d)
    = exHolds c s (sentVal m ρ (mate s.1 c) s) := by
  rw [Finset.sdiff_empty, duties_recv, bigSep_singleton, payload_recv]

end Sched

/-! ## What a device owes, and the levels -/

/-- The credits a device owes its partners for the transfers of the slots `l`, the first of the list outermost. -/
def debt (c : Dev nD) : List Slot → CellTallies nD τ sig Unit
  | [] => 0
  | s :: l => debt c l + tallyAt (recvCell (mate s.1 c) s) () N

/-- The slots of a column half of an exchange, in the order of their transfers. -/
abbrev quadSlots (p : Fin 3) (h : Fin 2) : List Slot := [(p, h, 0), (p, h, 1), (p, h, 2), (p, h, 3)]
/-- All the slots, in the order of their transfers. -/
abbrev order : List Slot :=
  quadSlots 0 0 ++ (quadSlots 0 1 ++ (quadSlots 1 0 ++ (quadSlots 1 1 ++ (quadSlots 2 0 ++ (quadSlots 2 1 ++ [])))))

theorem mem_order (s : Slot) : s ∈ order := by obtain ⟨p, h, c⟩ := s; revert p h c; decide
theorem order_nodup : order.Nodup := by decide

/-- Owed at launch: every transfer's credit, and one unit to both partners' barriers. -/
def O₁ (c : Dev nD) : CellTallies nD τ sig Unit := debt c order + tallyAt (barCell (pb c)) () 1
def O₀ (c : Dev nD) : CellTallies nD τ sig Unit := O₁ c + tallyAt (barCell (pa c)) () 1

def L (g : GSem nD τ sig) : Finset Unit := if g.1.2 = .tc then {()} else ∅

open Classical in
/-- Barrier cells at 1, the receive cells of exchange `p` at `2 + p`, everything else at 0. -/
def lv (g : GSem nD τ sig) (_ : Unit) : ℕ :=
  if g.2 = .reg barS then 1 else if h : ∃ s, g.2 = .dma (rcvS s) then 2 + h.choose.1.val else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (s : Slot) : lv (recvCell c s) () = 2 + s.1.val := by
  have h : ∃ t, (recvCell c s).2 = .dma (rcvS t) := ⟨s, rfl⟩
  unfold lv; rw [if_neg (recv_ne_bar s), dif_pos h]
  have : h.choose = s := recv_inj h.choose_spec.symm
  rw [this]
theorem lv_low (c : Dev nD) (q : DmaSem sig) (hq : ∀ s, q ≠ rcvS s) : lv ((c : Thread nD τ), .dma q) () = 0 := by
  unfold lv; rw [if_neg (fun h => by cases h), dif_neg (fun ⟨s, h⟩ => hq s (SemLoc.dma.inj h))]

theorem debt_pos {c : Dev nD} {l : List Slot} {g : GSem nD τ sig} {u : Unit} (h : 0 < debt c l g u) :
    ∃ s ∈ l, g = recvCell (mate s.1 c) s := by
  induction l with
  | nil => exact absurd h (Nat.lt_irrefl 0)
  | cons s l ih =>
    unfold debt at h
    rw [Pi.add_apply, Finsupp.add_apply, tallyAt_apply] at h
    by_cases hg : g = recvCell (mate s.1 c) s
    · exact ⟨s, List.mem_cons_self, hg⟩
    · rw [if_neg (fun h' => hg h'.1), Nat.add_zero] at h
      obtain ⟨t, ht, e⟩ := ih h
      exact ⟨t, List.mem_cons_of_mem _ ht, e⟩

theorem O₀_pos {c : Dev nD} {g : GSem nD τ sig} {u : Unit} (h : 0 < O₀ c g u) :
    (∃ s, g = recvCell (mate s.1 c) s) ∨ g = barCell (pb c) ∨ g = barCell (pa c) := by
  unfold O₀ O₁ at h
  rw [Pi.add_apply, Finsupp.add_apply, Pi.add_apply, Finsupp.add_apply, tallyAt_apply, tallyAt_apply] at h
  by_contra hn
  rw [not_or, not_or] at hn
  have h0 : debt c order g u = 0 := Nat.eq_zero_of_not_pos fun h' => hn.1 (by obtain ⟨s, _, e⟩ := debt_pos h'; exact ⟨s, e⟩)
  rw [h0, if_neg (fun h' => hn.2.1 h'.1), if_neg (fun h' => hn.2.2 h'.1)] at h
  exact Nat.lt_irrefl 0 h

omit [FloatOps F] in
/-- A wait on a cell below every credit owed. -/
theorem mayWait_debt (c : Dev nD) (sm : SemLoc sig) (k : ℕ) (hk : lv ((c : Thread nD τ), sm) () = k) (l : List Slot)
    (hl : ∀ s ∈ l, k < 2 + s.1.val) : (levAts L lv : sProp 𝕄) ⊢ MayWait (c : Thread nD τ) sm () (debt c l) :=
  MayOwe.of_cut (L := L) (lev := lv) k (fun p hp => by rw [Finset.mem_singleton.mp hp, L_tc]; exact Finset.mem_singleton_self _)
    (fun g u hg => by obtain ⟨s, _, rfl⟩ := debt_pos hg; rw [L_tc]; exact Finset.mem_singleton_self _)
    (fun p hp => by rw [Finset.mem_singleton.mp hp]; exact hk.le)
    (fun g u hg => by obtain ⟨s, hs, rfl⟩ := debt_pos hg; cases u; rw [lv_recv]; exact hl s hs)

omit [FloatOps F] in
theorem mayWait_bar (c : Dev nD) (l : List Slot) : (levAts L lv : sProp 𝕄) ⊢ MayWait (c : Thread nD τ) (.reg barS) () (debt c l) :=
  mayWait_debt c _ 1 (lv_bar c) l fun s _ => by omega
omit [FloatOps F] in
theorem mayWait_send (c : Dev nD) (s : Slot) (l : List Slot) : (levAts L lv : sProp 𝕄) ⊢ MayWait (c : Thread nD τ) (.dma (sndS s)) () (debt c l) :=
  mayWait_debt c _ 0 (lv_low c _ (sndS_ne_rcvS s)) l fun s _ => by omega
omit [FloatOps F] in
theorem mayWait_recv (c : Dev nD) (s : Slot) (l : List Slot) (hl : ∀ t ∈ l, s.1.val < t.1.val) :
    (levAts L lv : sProp 𝕄) ⊢ MayWait (c : Thread nD τ) (.dma (rcvS s)) () (debt c l) :=
  mayWait_debt c _ _ (lv_recv c s) l fun t ht => by have := hl t ht; omega

omit [FloatOps F] in
/-- The waits of the pipeline on its staging cells. -/
theorem mayWait_stage (c : Dev nD) (q : DmaSem sig) (hq : ∀ s, q ≠ rcvS s) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | rfl | rfl <;> exact Finset.mem_singleton_self _)
      (fun p hp => by rw [Finset.mem_singleton.mp hp]; exact (lv_low c q hq).le)
      (fun g u hg => by
        cases u
        rcases O₀_pos hg with ⟨s, rfl⟩ | rfl | rfl
        · rw [lv_recv]; omega
        · rw [lv_bar]; omega
        · rw [lv_bar]; omega)
  · rw [MayWait_zero]; iintro -; iempintro

/-! ## What the devices hold -/

/-- The invariants of all cells, and that every cell has reached its round. -/
def records (K : Dev nD × Key → ℕ) : sProp 𝕄 :=
  iprop((bigSep Finset.univ fun ck : Dev nD × Key => cellInv ER (sched m ρ) (K ck) (kcell ck))
    ∗ bigSep Finset.univ fun ck : Dev nD × Key => reached ER (kcell ck) 0)

instance records_persistent (K : Dev nD × Key → ℕ) : BI.Persistent (records m ρ K) := by unfold records; infer_instance

omit [FloatOps F] in
theorem bigSep_at (ck : Dev nD × Key) (Φ : Dev nD × Key → sProp 𝕄) : bigSep Finset.univ Φ ⊢ Φ ck := by
  classical exact bigSep_elim (Finset.mem_univ ck)

theorem inv_at (K : Dev nD × Key → ℕ) (ck : Dev nD × Key) : records m ρ K ⊢ cellInv ER (sched m ρ) (K ck) (kcell ck) := by
  unfold records
  iintro ⟨H, -⟩
  iapply (bigSep_at ck fun ck : Dev nD × Key => cellInv ER (sched m ρ) (K ck) (kcell ck)); iexact H
theorem reached_at (K : Dev nD × Key → ℕ) (ck : Dev nD × Key) : records m ρ K ⊢ reached ER (kcell ck) 0 := by
  unfold records
  iintro ⟨-, H⟩
  iapply (bigSep_at ck fun ck : Dev nD × Key => (reached ER (kcell ck) 0 : sProp 𝕄)); iexact H

/-- What a device starts with for a slot: its positions at both cells, the tokens of the two duties it pays, -/
def seat (c : Dev nD) (s : Slot) : sProp 𝕄 := iprop(atPos ER (sendCell c s) 0 ∅ 0 ∗ atPos ER (recvCell c s) 0 ∅ 0)
def toks (c : Dev nD) (s : Slot) : sProp 𝕄 := iprop(dutyTok ER (sendCell c s) 0 false ∗ dutyTok ER (recvCell (mate s.1 c) s) 0 false)
/-- and the credit of its receive cell. -/
def due (c : Dev nD) (s : Slot) : sProp 𝕄 := cred (tallyAt (recvCell c s) () N)
/-- Together, with its staging slot. -/
def unsent (c : Dev nD) (s : Slot) : sProp 𝕄 := iprop(seat (F := F) c s ∗ toks c s ∗ due c s ∗ stAny c s)
/-- What it holds while the slot's transfers are in flight, -/
def flying (c : Dev nD) (s : Slot) : sProp 𝕄 := iprop(seat (F := F) c s ∗ due c s ∗ cred (tallyAt (sendCell c s) () N))
/-- and after both waits: the slots of both buffers, both counters at zero. -/
def done (c : Dev nD) (s : Slot) : sProp 𝕄 := iprop(stAny (F := F) c s ∗ exAny c s ∗ semVal (sendCell c s) 0 ∗ semVal (recvCell c s) 0)

end Cert.KernelIdealProof

end
-- ==== Proof.KernelIdealRules.lean ====
/-
The steps of the body under the protocol: reading and writing the staged rows, sending and receiving a chunk, four chunks
at a time, and from them the whole body.
-/
module

public import proofs.«01_k».proof.Proof.KernelIdealProtocol

@[expose] public section

noncomputable section

namespace Cert.KernelIdealProof

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-- A program run by device `c`, ending in `Q`. -/
abbrev Runs (c : Dev nD) {α : Type} (p : KProg F α) (Q : α → sProp 𝕄) : sProp 𝕄 :=
  wp frame (wpE (defs₀ (F := F)) 𝒱₀ (c : Thread nD τ) none) Set.univ p Q

/-! ## What is read of a slot -/

omit [FloatOps F] in
theorem slot_set_st (p : Fin 3) (h : Fin 2) (i : Fin 4) : (slotM stM p h i).view.set = (stM.access (slotR p h i)).set := View.set_reshape _ _
omit [FloatOps F] in
theorem slot_set_ex (p : Fin 3) (h : Fin 2) (i : Fin 4) : (slotM exM p h i).view.set = (exM.access (slotR p h i)).set := View.set_reshape _ _

omit [FloatOps F] in
/-- A slot reads the chunk just stored in it. -/
theorem read_stored (p : Fin 3) (h : Fin 2) (i : Fin 4) (f : (cc0_scratch0 : Ref sig .tc).ty.Contents (Elt F)) (v : FVec F Ch .f32) :
    (slotM stM p h i).view.read (Elt F) ((stM.access (slotR p h i)).write (Elt F) f
      (shapeCast S1x1x1x256x128 v Facts₀.shapeCasts_S256x128_S1x1x1x256x128) Finset.univ) = v := by
  funext x
  have e : (slotM stM p h i).view.read (Elt F) ((stM.access (slotR p h i)).write (Elt F) f
      (shapeCast S1x1x1x256x128 v Facts₀.shapeCasts_S256x128_S1x1x1x256x128) Finset.univ) x
      = (stM.access (slotR p h i)).read (Elt F) ((stM.access (slotR p h i)).write (Elt F) f
      (shapeCast S1x1x1x256x128 v Facts₀.shapeCasts_S256x128_S1x1x1x256x128) Finset.univ)
        (Shape.reshapeEquiv Facts₀.squeezes_S1x1x1x256x128_S256x128.numel_eq x) := rfl
  rw [e, View.read_write_univ]
  unfold shapeCast
  exact congrArg v ((Shape.reshapeEquiv _).apply_symm_apply x)

omit [FloatOps F] in
/-- A load of a landing slot, its unit axes dropped, is what the slot reads. -/
theorem read_landed (p : Fin 3) (h : Fin 2) (i : Fin 4) (f : (cc0_scratch1 : Ref sig .tc).ty.Contents (Elt F)) :
    shapeCast Ch (exM.view.readAt (Elt F) (slotR p h i).toLoadRect f) Facts₀.shapeCasts_S1x1x1x256x128_S256x128
      = (slotM exM p h i).view.read (Elt F) f := rfl

/-! ## One chunk -/

/-- Reading a staging slot. -/
theorem wp_peek (c : Dev nD) (p : Fin 3) (h : Fin 2) (i : Fin 4) {hl : stM.view.LoadsAt (slotR p h i).toLoadRect}
    {α : Type} {Q : α → sProp 𝕄} {k : _ → KProg F α} :
    stAny c (p, h, i) ⊢ iprop((∀ w, stAny c (p, h, i) -∗ Runs c (k w) Q) -∗ Runs c (.op (.load stM (slotR p h i).toLoadRect hl) k) Q) := by
  unfold Runs stAny stPts
  iintro ⟨%fs, Hst⟩ Hk
  have hset : stM.view.setOn (slotR p h i).set ⊆ (slotM stM p h i).view.set := by
    rw [slot_set_st]; exact (View.set_slice (v := stM.view) (slotR p h i)).ge
  iapply (wp_load 𝒱₀ (c : Thread nD τ) none Set.univ (m := stM) hset) $$ Hst
  iintro Hst
  iapply Hk
  iexists fs; iexact Hst

/-- The transfer of a slot that reads as the chunk to be sent. -/
theorem wp_xfer (c : Dev nD) (s : Slot) (fs : Buf (Elt F) ((c : Thread nD τ).loc cc0_scratch0)) (fd : Buf (Elt F) ((mate s.1 c : Thread nD τ).loc cc0_scratch1))
    (hfs : (slotM stM s.1 s.2.1 s.2.2).view.read (Elt F) fs = sentVal m ρ c s) (l : List Slot) (W : Waits sig Unit)
    {hsc : (slotM exM s.1 s.2.1 s.2.2).view.ref.isScScratch = false} {hsrc hdst hsem}
    {α : Type} {Q : α → sProp 𝕄} {k : PUnit → KProg F α} :
    iprop(records m ρ K ∗ toks c s ∗ stPts c s fs ∗ exPts (mate s.1 c) s fd ∗ owes (c : Thread nD τ) (debt c (s :: l)) W)
      ⊢ iprop(((cred (tallyAt (sendCell c s) () N) ∗ owes (c : Thread nD τ) (debt c l) W) -∗ Runs c (k ⟨⟩) Q)
        -∗ Runs c (.op (.enqueueDma (slotM stM s.1 s.2.1 s.2.2) (.remote (Dev.tc (mate s.1 c)) (slotM exM s.1 s.2.1 s.2.2) (.dma (sndS s)) hsc) (.dma (rcvS s))
            hsrc hdst hsem) k) Q) := by
  unfold Runs toks stPts exPts
  iintro ⟨#HR, ⟨Ht1, Ht2⟩, Hst, Hex, HO⟩
  iapply (Rounds.wp_send_pointsTo 𝒱₀ ER (sched m ρ) (c : Thread nD τ) none (κ₁ := K (c, .inr (.inl s))) (κ₂ := K (mate s.1 c, .inr (.inr s)))
    (c' := (mate s.1 c : Thread nD τ)) (src := slotM stM s.1 s.2.1 s.2.2) (dst := slotM exM s.1 s.2.1 s.2.2)
    (r₁ := 0) (r₂ := 0) (d₁ := false) (d₂ := false) (fs := fs) (fd := fd) (W := W)
    (by rw [duties_send m ρ c s]; exact Finset.mem_singleton_self _) (by rw [duties_recv m ρ (mate s.1 c) s]; exact Finset.mem_singleton_self _)
    () () N rfl (amount_send m ρ c s false) (amount_recv m ρ (mate s.1 c) s false) (debt c l) rfl
    (by
      rw [payload_send m ρ c s]; unfold stAny stPts
      iintro H; iexists fs; iexact H)
    (by
      rw [payload_recv m ρ (mate s.1 c) s]; unfold exHolds exPts
      iintro H; iexists _; isplitr; rotate_left
      · iexact H
      · ipureintro
        rw [View.read_write_univ, mate_mate]; exact hfs)) $$ [Hst Hex HO Ht1 Ht2]
  · isplitr; · iapply (inv_at m ρ K (c, .inr (.inl s))); iexact HR
    isplitr; · iapply (inv_at m ρ K (mate s.1 c, .inr (.inr s))); iexact HR
    isplitl [Hst]; · iexact Hst
    isplitl [Hex]; · iexact Hex
    isplitl [HO]; · iexact HO
    isplitl [Ht1]; · iexact Ht1
    isplitr; · iapply (reached_at m ρ K (c, .inr (.inl s))); iexact HR
    isplitl [Ht2]; · iexact Ht2
    iapply (reached_at m ρ K (mate s.1 c, .inr (.inr s))); iexact HR

/-- Storing a chunk in its staging slot. -/
theorem wp_stage (c : Dev nD) (p : Fin 3) (h : Fin 2) (i : Fin 4) (v : FVec F Ch .f32) {hx hm}
    {α : Type} {Q : α → sProp 𝕄} {k : PUnit → KProg F α} :
    stAny c (p, h, i) ⊢ iprop((∀ f, ⌜(slotM stM p h i).view.read (Elt F) f = v⌝ -∗ stPts c (p, h, i) f -∗ Runs c (k ⟨⟩) Q)
      -∗ Runs c (.op (.store stM (slotR p h i) (shapeCast S1x1x1x256x128 v Facts₀.shapeCasts_S256x128_S1x1x1x256x128) Finset.univ hx hm) k) Q) := by
  unfold Runs stAny stPts
  iintro ⟨%fs, Hst⟩ Hk
  iapply (wp_store 𝒱₀ (c : Thread nD τ) none Set.univ (m := stM) (r := slotR p h i) (Mk := Finset.univ)
    (by rw [slot_set_st]; exact Finset.Subset.refl _)) $$ Hst
  iintro Hst
  iapply Hk $$ [] Hst
  ipureintro; exact read_stored p h i fs v

/-- Sending a chunk: the staging slot and the partner's landing slot go into flight, and the partner's credit is paid. -/
theorem wp_send1 (c : Dev nD) (p : Fin 3) (h : Fin 2) (i : Fin 4) (n : Dev nD) (hn : n = mate p c) (v : FVec F Ch .f32) (hv : v = sentVal m ρ c (p, h, i))
    (l : List Slot) (W : Waits sig Unit) (Q : PUnit → sProp 𝕄) :
    iprop(records m ρ K ∗ unsent c (p, h, i) ∗ exAny (mate p c) (p, h, i) ∗ owes (c : Thread nD τ) (debt c ((p, h, i) :: l)) W
        ∗ ((flying c (p, h, i) ∗ owes (c : Thread nD τ) (debt c l) W) -∗ Q ⟨⟩))
      ⊢ Runs c (send stM exM cc0_scratch2 cc0_scratch3 p h i n v) Q := by
  subst hn
  unfold send unsent
  simp only [Prog.lift, Prog.bind_op, Prog.bind_ret]
  iintro ⟨#HR, ⟨Hseat, Htok, Hdue, Hst⟩, Hex, HO, HQ⟩
  unfold exAny
  icases Hex with ⟨%fd, Hex⟩
  iapply (wp_peek (F := F) c p h i) $$ Hst; iintro %w Hst
  iapply (wp_stage (F := F) c p h i v) $$ Hst
  iintro %fs %hfs Hst
  iapply (wp_xfer m ρ K c (p, h, i) fs fd (hfs.trans hv) l W) $$ [Htok Hst Hex HO]
  · isplitr; · iexact HR
    isplitl [Htok]; · iexact Htok
    isplitl [Hst]; · iexact Hst
    isplitl [Hex]; · iexact Hex
    iexact HO
  iintro ⟨Hc, HO⟩
  unfold Runs
  rw [wp_ret]; imodintro
  iapply HQ
  unfold flying
  isplitr [HO]
  · isplitl [Hseat]; · iexact Hseat
    isplitl [Hdue]; · iexact Hdue
    iexact Hc
  · iexact HO

/-- Receiving a chunk: both waits, and the partner's chunk read. Both cells are closed. -/
theorem wp_recv1 (c : Dev nD) (p : Fin 3) (h : Fin 2) (i : Fin 4) (l : List Slot) (hl : ∀ t ∈ l, p.val < t.1.val)
    (W : Waits sig Unit) (Q : FVec F Ch .f32 → sProp 𝕄) :
    iprop(records m ρ K ∗ levAts L lv ∗ flying c (p, h, i) ∗ owes (c : Thread nD τ) (debt c l) W
        ∗ ((done c (p, h, i) ∗ ∃ W', owes (c : Thread nD τ) (debt c l) W') -∗ Q (sentVal m ρ (mate p c) (p, h, i))))
      ⊢ Runs c (recv stM exM cc0_scratch2 cc0_scratch3 p h i) Q := by
  unfold Runs recv flying seat due
  simp only [Prog.lift, Prog.bind_op, Prog.bind_ret, Prog.pure_eq_ret]
  iintro ⟨#HR, #Hlev, ⟨⟨HaS, HaV⟩, HcV, HcS⟩, HO, HQ⟩
  iapply (Rounds.wp_wait_rest_token 𝒱₀ ER (sched m ρ) (c : Thread nD τ) none (κ := K (c, .inr (.inl (p, h, i))))
      (wpE_waitDma2_eq 𝒱₀ (c : Thread nD τ) none Set.univ) (Set.mem_univ _) () (O := debt c l) (W := W) (R := 0) (m := 0) (T := ∅)
      (by rw [Nat.zero_add, expect_send m ρ c (p, h, i)])) $$ [HcS HO HaS]
  · isplitr; · iapply (inv_at m ρ K (c, .inr (.inl (p, h, i)))); iexact HR
    isplitl [HcS]; · iexact HcS
    isplitl [HO]; · iexact HO
    isplitr; · iapply (mayWait_send (F := F) c (p, h, i) l); iexact Hlev
    iexact HaS
  iintro ⟨HO, HaS, -, Hpay⟩
  ihave Hst := (Entails.of_eq (rest_send m ρ c (p, h, i))) $$ Hpay
  iapply (Rounds.wp_wait_rest_token 𝒱₀ ER (sched m ρ) (c : Thread nD τ) none (κ := K (c, .inr (.inr (p, h, i))))
      (wpE_waitDma2_eq 𝒱₀ (c : Thread nD τ) none Set.univ) (Set.mem_univ _) () (O := debt c l) (R := 0) (m := 0) (T := ∅)
      (by rw [Nat.zero_add, expect_recv m ρ c (p, h, i)])) $$ [HcV HO HaV]
  · isplitr; · iapply (inv_at m ρ K (c, .inr (.inr (p, h, i)))); iexact HR
    isplitl [HcV]; · iexact HcV
    isplitl [HO]; · iexact HO
    isplitr; · iapply (mayWait_recv (F := F) c (p, h, i) l hl); iexact Hlev
    iexact HaV
  iintro ⟨HO, HaV, -, Hpay⟩
  ihave Hex := (Entails.of_eq (rest_recv m ρ c (p, h, i))) $$ Hpay
  imod (Rounds.cell_close ER (sched m ρ) (Set.mem_univ (K (c, .inr (.inl (p, h, i))))) (fun h => h) (R := 0 + 1) (duties_later m ρ (sendCell c (p, h, i)))) $$ [HaS] with HzS
  · isplitr; · iapply (inv_at m ρ K (c, .inr (.inl (p, h, i)))); iexact HR
    iexact HaS
  imod (Rounds.cell_close ER (sched m ρ) (Set.mem_univ (K (c, .inr (.inr (p, h, i))))) (fun h => h) (R := 0 + 1) (duties_later m ρ (recvCell c (p, h, i)))) $$ [HaV] with HzV
  · isplitr; · iapply (inv_at m ρ K (c, .inr (.inr (p, h, i)))); iexact HR
    iexact HaV
  unfold exHolds exPts
  icases Hex with ⟨%f, %hf, Hex⟩
  have hset : exM.view.setOn (slotR p h i).set ⊆ (slotM exM p h i).view.set := by
    rw [slot_set_ex]; exact (View.set_slice (v := exM.view) (slotR p h i)).ge
  iapply (wp_load 𝒱₀ (c : Thread nD τ) none Set.univ (m := exM) hset) $$ Hex; iintro Hex
  rw [wp_ret]; imodintro
  rw [read_landed]
  rw [show (slotM exM p h i).view.read (Elt F) f = sentVal m ρ (mate p c) (p, h, i) from hf]
  iapply HQ
  unfold done exAny exPts
  isplitr [HO]
  · isplitl [Hst]; · iexact Hst
    isplitl [Hex]; · iexists f; iexact Hex
    isplitl [HzS] <;> iassumption
  · iexists _; iexact HO

/-- Reading a chunk of the device's rows. -/
theorem wp_loadX (c : Dev nD) (h : Fin 2) (i : Fin 4) (f : (cc0_stg0_0 : Ref sig .tc).ty.Contents (Elt F)) (Q : FVec F Ch .f32 → sProp 𝕄) :
    iprop((((c : Thread nD τ).loc cc0_stg0_0) ↦{fullShare} f) ∗ ((((c : Thread nD τ).loc cc0_stg0_0) ↦{fullShare} f) -∗ Q (chunkOf f h i)))
      ⊢ Runs c (loadX xM h i) Q := by
  unfold Runs loadX
  simp only [Prog.lift, Prog.bind_op, Prog.bind_ret, Prog.pure_eq_ret]
  iintro ⟨Hx, HQ⟩
  iapply (wp_load 𝒱₀ (c : Thread nD τ) none Set.univ (m := xM) (Finset.subset_univ _)) $$ Hx; iintro Hx
  rw [wp_ret]; imodintro
  rw [show shapeCast Ch (View.readAt (Elt F) xM.view (rowsR h i).toLoadRect f) cast_ch = chunkOf f h i from rfl]
  iapply HQ; iexact Hx

/-- One chunk of the result written over `f`. -/
def put (h : Fin 2) (i : Fin 4) (v : FVec F Ch .f32) (f : (cc0_stg1_0 : Ref sig .tc).ty.Contents (Elt F)) : (cc0_stg1_0 : Ref sig .tc).ty.Contents (Elt F) :=
  (oM.access (rowsR h i) : View sig .tc _ _ _).write (Elt F) f v Finset.univ

/-- Writing a chunk of the result. -/
theorem wp_storeO (c : Dev nD) (h : Fin 2) (i : Fin 4) (v : FVec F Ch .f32) (f : (cc0_stg1_0 : Ref sig .tc).ty.Contents (Elt F)) (Q : PUnit → sProp 𝕄) :
    iprop((((c : Thread nD τ).loc cc0_stg1_0) ↦{fullShare} f) ∗ ((((c : Thread nD τ).loc cc0_stg1_0) ↦{fullShare} put h i v f) -∗ Q ⟨⟩))
      ⊢ Runs c (storeO oM h i v) Q := by
  unfold Runs storeO
  simp only [Prog.lift, Prog.bind_op, Prog.bind_ret, Prog.pure_eq_ret]
  iintro ⟨Ho, HQ⟩
  iapply (wp_load 𝒱₀ (c : Thread nD τ) none Set.univ (m := oM) (Finset.subset_univ _)) $$ Ho; iintro Ho
  iapply (wp_store 𝒱₀ (c : Thread nD τ) none Set.univ (m := oM) (r := rowsR h i) (Mk := Finset.univ) (Finset.subset_univ _)) $$ Ho; iintro Ho
  rw [wp_ret]; imodintro
  iapply HQ; iexact Ho

/-! ## Four chunks -/

/-- Reading a column half of the device's rows. -/
theorem wp_loadQ (c : Dev nD) (h : Fin 2) (f : (cc0_stg0_0 : Ref sig .tc).ty.Contents (Elt F)) (Q : Quad F → sProp 𝕄) :
    iprop((((c : Thread nD τ).loc cc0_stg0_0) ↦{fullShare} f) ∗ ((((c : Thread nD τ).loc cc0_stg0_0) ↦{fullShare} f) -∗ Q (quadOf f h)))
      ⊢ Runs c (loadQ xM h) Q := by
  unfold Runs loadQ
  simp only [wp_bind, wp_pure]
  iintro ⟨Hx, HQ⟩
  iapply (wp_loadX c h 0 f)
  isplitl [Hx]; · iexact Hx
  iintro Hx
  iapply (wp_loadX c h 1 f)
  isplitl [Hx]; · iexact Hx
  iintro Hx
  iapply (wp_loadX c h 2 f)
  isplitl [Hx]; · iexact Hx
  iintro Hx
  iapply (wp_loadX c h 3 f)
  isplitl [Hx]; · iexact Hx
  iintro Hx
  imodintro
  rw [show (⟨chunkOf f h 0, chunkOf f h 1, chunkOf f h 2, chunkOf f h 3⟩ : Quad F) = quadOf f h from rfl]
  iapply HQ; iexact Hx

/-- A column half of the result written over `f`. -/
def putQ (h : Fin 2) (q : Quad F) (f : (cc0_stg1_0 : Ref sig .tc).ty.Contents (Elt F)) : (cc0_stg1_0 : Ref sig .tc).ty.Contents (Elt F) :=
  put h 3 q.d (put h 2 q.c (put h 1 q.b (put h 0 q.a f)))

/-- Writing a column half of the result. -/
theorem wp_storeQ (c : Dev nD) (h : Fin 2) (q : Quad F) (f : (cc0_stg1_0 : Ref sig .tc).ty.Contents (Elt F)) (Q : PUnit → sProp 𝕄) :
    iprop((((c : Thread nD τ).loc cc0_stg1_0) ↦{fullShare} f) ∗ ((((c : Thread nD τ).loc cc0_stg1_0) ↦{fullShare} putQ h q f) -∗ Q ⟨⟩))
      ⊢ Runs c (storeQ oM h q) Q := by
  unfold Runs storeQ putQ
  simp only [wp_bind, wp_pure]
  iintro ⟨Hx, HQ⟩
  iapply (wp_storeO c h 0 q.a)
  isplitl [Hx]; · iexact Hx
  iintro Hx
  iapply (wp_storeO c h 1 q.b)
  isplitl [Hx]; · iexact Hx
  iintro Hx
  iapply (wp_storeO c h 2 q.c)
  isplitl [Hx]; · iexact Hx
  iintro Hx
  iapply (wp_storeO c h 3 q.d)
  isplitl [Hx]; · iexact Hx
  iintro Hx
  iapply HQ; iexact Hx

/-- Sending the four chunks of a column half. -/
theorem wp_sendQ (c : Dev nD) (p : Fin 3) (h : Fin 2) (n : Dev nD) (hn : n = mate p c) (q : Quad F) (hq : ∀ i, q.at i = sentVal m ρ c (p, h, i))
    (l : List Slot) (W : Waits sig Unit) (Q : PUnit → sProp 𝕄) :
    iprop(records m ρ K ∗ four (unsent c) p h ∗ four (exAny (mate p c)) p h ∗ owes (c : Thread nD τ) (debt c (quadSlots p h ++ l)) W
        ∗ ((four (flying c) p h ∗ owes (c : Thread nD τ) (debt c l) W) -∗ Q ⟨⟩))
      ⊢ Runs c (sendQ stM exM cc0_scratch2 cc0_scratch3 p h n q) Q := by
  unfold Runs sendQ four
  simp only [wp_bind, List.cons_append, List.nil_append]
  iintro ⟨#HR, ⟨Hu0, Hu1, Hu2, Hu3⟩, ⟨He0, He1, He2, He3⟩, HO, HQ⟩
  iapply (wp_send1 m ρ K c p h 0 n hn q.a (hq 0) ((p, h, 1) :: (p, h, 2) :: (p, h, 3) :: l) W)
  isplitr; · iexact HR
  isplitl [Hu0]; · iexact Hu0
  isplitl [He0]; · iexact He0
  isplitl [HO]; · iexact HO
  iintro ⟨Hf0, HO⟩
  iapply (wp_send1 m ρ K c p h 1 n hn q.b (hq 1) ((p, h, 2) :: (p, h, 3) :: l) W)
  isplitr; · iexact HR
  isplitl [Hu1]; · iexact Hu1
  isplitl [He1]; · iexact He1
  isplitl [HO]; · iexact HO
  iintro ⟨Hf1, HO⟩
  iapply (wp_send1 m ρ K c p h 2 n hn q.c (hq 2) ((p, h, 3) :: l) W)
  isplitr; · iexact HR
  isplitl [Hu2]; · iexact Hu2
  isplitl [He2]; · iexact He2
  isplitl [HO]; · iexact HO
  iintro ⟨Hf2, HO⟩
  iapply (wp_send1 m ρ K c p h 3 n hn q.d (hq 3) l W)
  isplitr; · iexact HR
  isplitl [Hu3]; · iexact Hu3
  isplitl [He3]; · iexact He3
  isplitl [HO]; · iexact HO
  iintro ⟨Hf3, HO⟩
  iapply HQ
  isplitr [HO]
  · isplitl [Hf0]; · iexact Hf0
    isplitl [Hf1]; · iexact Hf1
    isplitl [Hf2] <;> iassumption
  · iexact HO

/-- What a partner sends in the four slots of a column half. -/
def sentQ (c : Dev nD) (p : Fin 3) (h : Fin 2) : Quad F :=
  ⟨sentVal m ρ c (p, h, 0), sentVal m ρ c (p, h, 1), sentVal m ρ c (p, h, 2), sentVal m ρ c (p, h, 3)⟩

/-- Receiving the four chunks of a column half. -/
theorem wp_recvQ (c : Dev nD) (p : Fin 3) (h : Fin 2) (l : List Slot) (hl : ∀ t ∈ l, p.val < t.1.val) (W : Waits sig Unit) (Q : Quad F → sProp 𝕄) :
    iprop(records m ρ K ∗ levAts L lv ∗ four (flying c) p h ∗ owes (c : Thread nD τ) (debt c l) W
        ∗ ((four (done c) p h ∗ ∃ W', owes (c : Thread nD τ) (debt c l) W') -∗ Q (sentQ m ρ (mate p c) p h)))
      ⊢ Runs c (recvQ stM exM cc0_scratch2 cc0_scratch3 p h) Q := by
  unfold Runs recvQ four
  simp only [wp_bind, wp_pure]
  iintro ⟨#HR, #Hlev, ⟨Hf0, Hf1, Hf2, Hf3⟩, HO, HQ⟩
  iapply (wp_recv1 m ρ K c p h 0 l hl W)
  isplitr; · iexact HR
  isplitr; · iexact Hlev
  isplitl [Hf0]; · iexact Hf0
  isplitl [HO]; · iexact HO
  iintro ⟨Hd0, %W0, HO⟩
  iapply (wp_recv1 m ρ K c p h 1 l hl W0)
  isplitr; · iexact HR
  isplitr; · iexact Hlev
  isplitl [Hf1]; · iexact Hf1
  isplitl [HO]; · iexact HO
  iintro ⟨Hd1, %W1, HO⟩
  iapply (wp_recv1 m ρ K c p h 2 l hl W1)
  isplitr; · iexact HR
  isplitr; · iexact Hlev
  isplitl [Hf2]; · iexact Hf2
  isplitl [HO]; · iexact HO
  iintro ⟨Hd2, %W2, HO⟩
  iapply (wp_recv1 m ρ K c p h 3 l hl W2)
  isplitr; · iexact HR
  isplitr; · iexact Hlev
  isplitl [Hf3]; · iexact Hf3
  isplitl [HO]; · iexact HO
  iintro ⟨Hd3, %W3, HO⟩
  imodintro
  rw [show (⟨sentVal m ρ (mate p c) (p, h, 0), sentVal m ρ (mate p c) (p, h, 1), sentVal m ρ (mate p c) (p, h, 2), sentVal m ρ (mate p c) (p, h, 3)⟩ : Quad F)
    = sentQ m ρ (mate p c) p h from rfl]
  iapply HQ
  isplitr [HO]
  · isplitl [Hd0]; · iexact Hd0
    isplitl [Hd1]; · iexact Hd1
    isplitl [Hd2] <;> iassumption
  · iexists W3; iexact HO

/-- The middle exchange of one chunk, received and sent on. -/
theorem wp_swap (c : Dev nD) (h : Fin 2) (i : Fin 4) (v : FVec F Ch .f32) (hv : combine (km2 c) v (sentVal m ρ (mate 1 c) (1, h, i)) = sentVal m ρ c (2, h, i))
    (l : List Slot) (hl : ∀ t ∈ l, 1 < t.1.val) (W : Waits sig Unit) (Q : FVec F Ch .f32 → sProp 𝕄) :
    iprop(records m ρ K ∗ levAts L lv ∗ flying c (1, h, i) ∗ unsent c (2, h, i) ∗ exAny (mate 2 c) (2, h, i)
        ∗ owes (c : Thread nD τ) (debt c ((2, h, i) :: l)) W
        ∗ ((done c (1, h, i) ∗ flying c (2, h, i) ∗ ∃ W', owes (c : Thread nD τ) (debt c l) W') -∗ Q (sentVal m ρ c (2, h, i))))
      ⊢ Runs c (swap stM exM cc0_scratch2 cc0_scratch3 h i (km2 c) (pa c) v) Q := by
  unfold Runs swap
  simp only [wp_bind, wp_pure]
  iintro ⟨#HR, #Hlev, Hf, Hu, He, HO, HQ⟩
  iapply (wp_recv1 m ρ K c 1 h i ((2, h, i) :: l) (by
    intro t ht; rcases List.mem_cons.mp ht with rfl | ht
    · exact Nat.lt_add_one 1
    · exact hl t ht) W)
  isplitr; · iexact HR
  isplitr; · iexact Hlev
  isplitl [Hf]; · iexact Hf
  isplitl [HO]; · iexact HO
  iintro ⟨Hd, %W', HO⟩
  rw [hv]
  iapply (wp_send1 m ρ K c 2 h i (pa c) (if_neg (by decide)).symm _ rfl l W')
  isplitr; · iexact HR
  isplitl [Hu]; · iexact Hu
  isplitl [He]; · iexact He
  isplitl [HO]; · iexact HO
  iintro ⟨Hf, HO⟩
  imodintro
  iapply HQ
  isplitl [Hd]; · iexact Hd
  isplitl [Hf]; · iexact Hf
  iexists W'; iexact HO

/-- The middle exchange of a column half. -/
theorem wp_swapQ (c : Dev nD) (h : Fin 2) (q : Quad F) (hq : ∀ i, combine (km2 c) (q.at i) (sentVal m ρ (mate 1 c) (1, h, i)) = sentVal m ρ c (2, h, i))
    (l : List Slot) (hl : ∀ t ∈ l, 1 < t.1.val) (W : Waits sig Unit) (Q : Quad F → sProp 𝕄) :
    iprop(records m ρ K ∗ levAts L lv ∗ four (flying c) 1 h ∗ four (unsent c) 2 h ∗ four (exAny (mate 2 c)) 2 h
        ∗ owes (c : Thread nD τ) (debt c (quadSlots 2 h ++ l)) W
        ∗ ((four (done c) 1 h ∗ four (flying c) 2 h ∗ ∃ W', owes (c : Thread nD τ) (debt c l) W') -∗ Q (sentQ m ρ c 2 h)))
      ⊢ Runs c (swapQ stM exM cc0_scratch2 cc0_scratch3 h (km2 c) (pa c) q) Q := by
  unfold Runs swapQ four
  simp only [wp_bind, wp_pure, List.cons_append, List.nil_append]
  have h2 : ∀ i : Fin 4, 1 < ((2, h, i) : Slot).1.val := fun _ => Nat.lt_add_one 1
  iintro ⟨#HR, #Hlev, ⟨Hf0, Hf1, Hf2, Hf3⟩, ⟨Hu0, Hu1, Hu2, Hu3⟩, ⟨He0, He1, He2, He3⟩, HO, HQ⟩
  iapply (wp_swap m ρ K c h 0 q.a (hq 0) ((2, h, 1) :: (2, h, 2) :: (2, h, 3) :: l)
    (List.forall_mem_cons.mpr ⟨h2 1, List.forall_mem_cons.mpr ⟨h2 2, List.forall_mem_cons.mpr ⟨h2 3, hl⟩⟩⟩) W)
  isplitr; · iexact HR
  isplitr; · iexact Hlev
  isplitl [Hf0]; · iexact Hf0
  isplitl [Hu0]; · iexact Hu0
  isplitl [He0]; · iexact He0
  isplitl [HO]; · iexact HO
  iintro ⟨Hd0, Hg0, %W0, HO⟩
  iapply (wp_swap m ρ K c h 1 q.b (hq 1) ((2, h, 2) :: (2, h, 3) :: l)
    (List.forall_mem_cons.mpr ⟨h2 2, List.forall_mem_cons.mpr ⟨h2 3, hl⟩⟩) W0)
  isplitr; · iexact HR
  isplitr; · iexact Hlev
  isplitl [Hf1]; · iexact Hf1
  isplitl [Hu1]; · iexact Hu1
  isplitl [He1]; · iexact He1
  isplitl [HO]; · iexact HO
  iintro ⟨Hd1, Hg1, %W1, HO⟩
  iapply (wp_swap m ρ K c h 2 q.c (hq 2) ((2, h, 3) :: l) (List.forall_mem_cons.mpr ⟨h2 3, hl⟩) W1)
  isplitr; · iexact HR
  isplitr; · iexact Hlev
  isplitl [Hf2]; · iexact Hf2
  isplitl [Hu2]; · iexact Hu2
  isplitl [He2]; · iexact He2
  isplitl [HO]; · iexact HO
  iintro ⟨Hd2, Hg2, %W2, HO⟩
  iapply (wp_swap m ρ K c h 3 q.d (hq 3) l hl W2)
  isplitr; · iexact HR
  isplitr; · iexact Hlev
  isplitl [Hf3]; · iexact Hf3
  isplitl [Hu3]; · iexact Hu3
  isplitl [He3]; · iexact He3
  isplitl [HO]; · iexact HO
  iintro ⟨Hd3, Hg3, %W3, HO⟩
  imodintro
  rw [show (⟨sentVal m ρ c (2, h, 0), sentVal m ρ c (2, h, 1), sentVal m ρ c (2, h, 2), sentVal m ρ c (2, h, 3)⟩ : Quad F) = sentQ m ρ c 2 h from rfl]
  iapply HQ
  isplitl [Hd0 Hd1 Hd2 Hd3]
  · isplitl [Hd0]; · iexact Hd0
    isplitl [Hd1]; · iexact Hd1
    isplitl [Hd2] <;> iassumption
  isplitl [Hg0 Hg1 Hg2 Hg3]
  · isplitl [Hg0]; · iexact Hg0
    isplitl [Hg1]; · iexact Hg1
    isplitl [Hg2] <;> iassumption
  iexists W3; iexact HO

end Cert.KernelIdealProof

end
-- ==== Proof.KernelIdealWalk.lean ====
/-
The whole body under the protocol: the handshake, the three exchanges of both column halves, the store of the result.
-/
module

public import proofs.«01_k».proof.Proof.KernelIdealRules

@[expose] public section

noncomputable section

namespace Cert.KernelIdealProof

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Key → ℕ)

/-- What a device holds for the handshake: its position at its barrier cell and the tokens of the two signals it sends. -/
def gate (c : Dev nD) : sProp 𝕄 :=
  iprop(atPos ER (barCell c) 0 ∅ 0 ∗ dutyTok ER (barCell (pa c)) 0 false ∗ dutyTok ER (barCell (pb c)) 0 true)

/-- The handshake: the device lends its landing slots to its partners and is lent theirs. -/
theorem wp_handshake (c : Dev nD) (W : Waits sig Unit) (Q : PUnit → sProp 𝕄) :
    iprop(records m ρ K ∗ levAts L lv ∗ gate c ∗ cred (tallyAt (barCell c) () 2) ∗ roomA c ∗ roomB c ∗ owes (c : Thread nD τ) (O₀ c) W
        ∗ ((semVal (barCell c) 0 ∗ roomA (pa c) ∗ roomB (pb c) ∗ ∃ W', owes (c : Thread nD τ) (debt c order) W') -∗ Q ⟨⟩))
      ⊢ Runs c (handshake c) Q := by
  unfold Runs handshake gate
  simp only [semSignalWord, semWaitWord, Prog.lift, Prog.bind_op, Prog.bind_ret, Prog.pure_eq_ret]
  iintro ⟨#HR, #Hlev, ⟨HaB, HtA, HtB⟩, HcB, HrA, HrB, HO, HQ⟩
  unfold O₀
  iapply (Rounds.wp_signal 𝒱₀ ER (sched m ρ) (c : Thread nD τ) none (dst := (pa c : Thread nD τ)) (κ := K (pa c, .inl ()))
      (d := false) (by rw [duties_bar]; exact Finset.mem_univ _) ((amount_bar m ρ (pa c) false).trans (by decide)) () (O₁ c) rfl)
    $$ [HO HtA HrA]
  · isplitr; · iapply (inv_at m ρ K (pa c, .inl ())); iexact HR
    isplitl [HO]; · iexact HO
    isplitl [HtA]; · iexact HtA
    isplitl [HrA]; · rw [payload_bar_false, pa_pa]; iexact HrA
    iapply (reached_at m ρ K (pa c, .inl ())); iexact HR
  iintro HO
  unfold O₁
  iapply (Rounds.wp_signal 𝒱₀ ER (sched m ρ) (c : Thread nD τ) none (dst := (pb c : Thread nD τ)) (κ := K (pb c, .inl ()))
      (d := true) (by rw [duties_bar]; exact Finset.mem_univ _) ((amount_bar m ρ (pb c) true).trans (by decide)) () (debt c order) rfl)
    $$ [HO HtB HrB]
  · isplitr; · iapply (inv_at m ρ K (pb c, .inl ())); iexact HR
    isplitl [HO]; · iexact HO
    isplitl [HtB]; · iexact HtB
    isplitl [HrB]; · rw [payload_bar_true, pb_pb]; iexact HrB
    iapply (reached_at m ρ K (pb c, .inl ())); iexact HR
  iintro HO
  iapply (Rounds.wp_wait_rest_token 𝒱₀ ER (sched m ρ) (c : Thread nD τ) none (κ := K (c, .inl ()))
      (wpE_semWait_eq 𝒱₀ (c : Thread nD τ) none Set.univ) (Set.mem_univ _) () (O := debt c order) (W := W) (R := 0) (m := 0) (T := ∅)
      (by rw [expect_bar]; decide)) $$ [HcB HO HaB]
  · isplitr; · iapply (inv_at m ρ K (c, .inl ())); iexact HR
    isplitl [HcB]; · iexact HcB
    isplitl [HO]; · iexact HO
    isplitr; · iapply (mayWait_bar (F := F) c order); iexact Hlev
    iexact HaB
  iintro ⟨HO, HaB, -, Hpay⟩
  ihave Hp := (Entails.of_eq (rest_bar m ρ c)) $$ Hpay
  icases Hp with ⟨HrA, HrB⟩
  imod (Rounds.cell_close ER (sched m ρ) (Set.mem_univ (K (c, .inl ()))) (fun h => h) (R := 0 + 1) (duties_later m ρ (barCell c))) $$ [HaB] with HzB
  · isplitr; · iapply (inv_at m ρ K (c, .inl ())); iexact HR
    iexact HaB
  rw [wp_ret]; imodintro
  iapply HQ
  isplitl [HzB]; · iexact HzB
  isplitl [HrA]; · iexact HrA
  isplitl [HrB]; · iexact HrB
  iexists _; iexact HO

theorem sentQ_0 (c : Dev nD) (h : Fin 2) : sentQ m ρ c 0 h = v0 m ρ c h := rfl
theorem sentQ_1 (c : Dev nD) (h : Fin 2) : sentQ m ρ c 1 h = v1 m ρ c h := rfl
theorem sentQ_2 (c : Dev nD) (h : Fin 2) : sentQ m ρ c 2 h = v2 m ρ c h := rfl

abbrev xAt (c : Dev nD) (f : (cc0_stg0_0 : Ref sig .tc).ty.Contents (Elt F)) : sProp 𝕄 := ((c : Thread nD τ).loc cc0_stg0_0) ↦{fullShare} f
abbrev oAt (c : Dev nD) (f : (cc0_stg1_0 : Ref sig .tc).ty.Contents (Elt F)) : sProp 𝕄 := ((c : Thread nD τ).loc cc0_stg1_0) ↦{fullShare} f

/-- The device's own sort of a column half, sent to the first partner. -/
theorem wp_opening (c : Dev nD) (h : Fin 2) (l : List Slot) (W : Waits sig Unit) (Q : Quad F → sProp 𝕄) :
    iprop(records m ρ K ∗ four (unsent c) 0 h ∗ four (exAny (pa c)) 0 h ∗ xAt c (xstg m ρ c) ∗ owes (c : Thread nD τ) (debt c (quadSlots 0 h ++ l)) W
        ∗ ((four (flying c) 0 h ∗ xAt c (xstg m ρ c) ∗ owes (c : Thread nD τ) (debt c l) W) -∗ Q (v0 m ρ c h)))
      ⊢ Runs c (opening xM stM exM cc0_scratch2 cc0_scratch3 c h) Q := by
  unfold Runs opening
  simp only [wp_bind, wp_pure]
  iintro ⟨#HR, Hu, He, Hx, HO, HQ⟩
  iapply (wp_loadQ c h (xstg m ρ c))
  isplitl [Hx]; · iexact Hx
  iintro Hx
  rw [show (sortPre (flipL c) (notFlipL c) (quadOf (xstg m ρ c) h)).tailUp (flipL c) = v0 m ρ c h from rfl]
  iapply (wp_sendQ m ρ K c 0 h (pa c) (if_neg (by decide)).symm (v0 m ρ c h) (fun _ => rfl) l W)
  isplitr; · iexact HR
  isplitl [Hu]; · iexact Hu
  isplitl [He]; · iexact He
  isplitl [HO]; · iexact HO
  iintro ⟨Hf, HO⟩
  imodintro
  iapply HQ
  isplitl [Hf]; · iexact Hf
  isplitl [Hx] <;> iassumption

/-- The first exchange of a column half, its merge sent to the second partner. -/
theorem wp_second (c : Dev nD) (h : Fin 2) (l : List Slot) (hl : ∀ t ∈ quadSlots 1 h ++ l, 0 < t.1.val) (W : Waits sig Unit) (Q : Quad F → sProp 𝕄) :
    iprop(records m ρ K ∗ levAts L lv ∗ four (flying c) 0 h ∗ four (unsent c) 1 h ∗ four (exAny (pb c)) 1 h
        ∗ owes (c : Thread nD τ) (debt c (quadSlots 1 h ++ l)) W
        ∗ ((four (done c) 0 h ∗ four (flying c) 1 h ∗ ∃ W', owes (c : Thread nD τ) (debt c l) W') -∗ Q (v1 m ρ c h)))
      ⊢ Runs c (second stM exM cc0_scratch2 cc0_scratch3 c h (v0 m ρ c h)) Q := by
  unfold Runs second
  simp only [wp_bind, wp_pure]
  iintro ⟨#HR, #Hlev, Hf, Hu, He, HO, HQ⟩
  iapply (wp_recvQ m ρ K c 0 h (quadSlots 1 h ++ l) hl W)
  isplitr; · iexact HR
  isplitr; · iexact Hlev
  isplitl [Hf]; · iexact Hf
  isplitl [HO]; · iexact HO
  iintro ⟨Hd, %W', HO⟩
  rw [show (crossAll (flip1 c) ((v0 m ρ c h).combine (km1 c) (sentQ m ρ (mate 0 c) 0 h))).tailUp (flip1 c) = v1 m ρ c h from rfl]
  iapply (wp_sendQ m ρ K c 1 h (pb c) (if_pos rfl).symm (v1 m ρ c h) (fun _ => rfl) l W')
  isplitr; · iexact HR
  isplitl [Hu]; · iexact Hu
  isplitl [He]; · iexact He
  isplitl [HO]; · iexact HO
  iintro ⟨Hf, HO⟩
  imodintro
  iapply HQ
  isplitl [Hd]; · iexact Hd
  isplitl [Hf]; · iexact Hf
  iexists W'; iexact HO

/-- The last exchange of a column half, its merge stored. -/
theorem wp_closing (c : Dev nD) (h : Fin 2) (f : (cc0_stg1_0 : Ref sig .tc).ty.Contents (Elt F)) (W : Waits sig Unit) (Q : PUnit → sProp 𝕄) :
    iprop(records m ρ K ∗ levAts L lv ∗ four (flying c) 2 h ∗ oAt c f ∗ owes (c : Thread nD τ) (debt c []) W
        ∗ ((four (done c) 2 h ∗ oAt c (putQ h (v3 m ρ c h) f) ∗ ∃ W', owes (c : Thread nD τ) (debt c []) W') -∗ Q ⟨⟩))
      ⊢ Runs c (closing oM stM exM cc0_scratch2 cc0_scratch3 c h (v2 m ρ c h)) Q := by
  unfold Runs closing
  simp only [wp_bind]
  iintro ⟨#HR, #Hlev, Hf, Ho, HO, HQ⟩
  iapply (wp_recvQ m ρ K c 2 h [] (fun t ht => absurd ht List.not_mem_nil) W)
  isplitr; · iexact HR
  isplitr; · iexact Hlev
  isplitl [Hf]; · iexact Hf
  isplitl [HO]; · iexact HO
  iintro ⟨Hd, %W', HO⟩
  rw [show (crossUp ((v2 m ρ c h).combine (km3 c) (sentQ m ρ (mate 2 c) 2 h))).tail = v3 m ρ c h from rfl]
  iapply (wp_storeQ c h (v3 m ρ c h) f)
  isplitl [Ho]; · iexact Ho
  iintro Ho
  iapply HQ
  isplitl [Hd]; · iexact Hd
  isplitl [Ho]; · iexact Ho
  iexists W'; iexact HO

/-- What the result's staging buffer holds at the end, written over `f`. -/
def outOver (c : Dev nD) (f : (cc0_stg1_0 : Ref sig .tc).ty.Contents (Elt F)) : (cc0_stg1_0 : Ref sig .tc).ty.Contents (Elt F) :=
  putQ 1 (v3 m ρ c 1) (putQ 0 (v3 m ρ c 0) f)

theorem later_slots (p : ℕ) (l : List Slot) (h : l.all (fun t => decide (p < t.1.val)) = true) : ∀ t ∈ l, p < t.1.val :=
  fun t ht => of_decide_eq_true (List.all_eq_true.mp h t ht)

/-- The body on device `c`. -/
theorem wp_body (c : Dev nD) (f : (cc0_stg1_0 : Ref sig .tc).ty.Contents (Elt F)) (W : Waits sig Unit) (Q : PUnit → sProp 𝕄) :
    iprop(records m ρ K ∗ levAts L lv ∗ gate c ∗ cred (tallyAt (barCell c) () 2) ∗ bigSep Finset.univ (unsent c) ∗ bigSep Finset.univ (exAny c)
        ∗ xAt c (xstg m ρ c) ∗ oAt c f ∗ owes (c : Thread nD τ) (O₀ c) W
        ∗ ((bigSep Finset.univ (done c) ∗ semVal (barCell c) 0 ∗ xAt c (xstg m ρ c) ∗ oAt c (outOver m ρ c f)
            ∗ ∃ W', owes (c : Thread nD τ) 0 W') -∗ Q ⟨⟩))
      ⊢ Runs c (bodyAt xM oM stM exM cc0_scratch2 cc0_scratch3 c) Q := by
  rw [bigSep_slots (unsent c), bigSep_slots (exAny c), bigSep_slots (done c)]
  unfold Runs bodyAt outOver
  simp only [wp_bind]
  iintro ⟨#HR, #Hlev, Hg, Hcb, ⟨⟨Hu00, Hu01⟩, ⟨Hu10, Hu11⟩, ⟨Hu20, Hu21⟩⟩, ⟨⟨He00, He01⟩, ⟨He10, He11⟩, ⟨He20, He21⟩⟩, Hx, Ho, HO, HQ⟩
  iapply (wp_handshake m ρ K c W)
  isplitr; · iexact HR
  isplitr; · iexact Hlev
  isplitl [Hg]; · iexact Hg
  isplitl [Hcb]; · iexact Hcb
  isplitl [He00 He01 He20 He21]
  · unfold roomA
    isplitl [He00 He01]
    · isplitl [He00] <;> iassumption
    · isplitl [He20] <;> iassumption
  isplitl [He10 He11]
  · unfold roomB
    isplitl [He10] <;> iassumption
  isplitl [HO]; · iexact HO
  unfold roomA roomB
  iintro ⟨Hz, ⟨⟨He00, He01⟩, ⟨He20, He21⟩⟩, ⟨He10, He11⟩, %W0, HO⟩
  -- the device's own sorts
  iapply (wp_opening m ρ K c 0 (quadSlots 0 1 ++ (quadSlots 1 0 ++ (quadSlots 1 1 ++ (quadSlots 2 0 ++ (quadSlots 2 1 ++ []))))) W0)
  isplitr; · iexact HR
  isplitl [Hu00]; · iexact Hu00
  isplitl [He00]; · iexact He00
  isplitl [Hx]; · iexact Hx
  isplitl [HO]; · iexact HO
  iintro ⟨Hf00, Hx, HO⟩
  iapply (wp_opening m ρ K c 1 (quadSlots 1 0 ++ (quadSlots 1 1 ++ (quadSlots 2 0 ++ (quadSlots 2 1 ++ [])))) W0)
  isplitr; · iexact HR
  isplitl [Hu01]; · iexact Hu01
  isplitl [He01]; · iexact He01
  isplitl [Hx]; · iexact Hx
  isplitl [HO]; · iexact HO
  iintro ⟨Hf01, Hx, HO⟩
  -- the first exchange
  iapply (wp_second m ρ K c 0 (quadSlots 1 1 ++ (quadSlots 2 0 ++ (quadSlots 2 1 ++ []))) (later_slots 0 _ (by decide)) W0)
  isplitr; · iexact HR
  isplitr; · iexact Hlev
  isplitl [Hf00]; · iexact Hf00
  isplitl [Hu10]; · iexact Hu10
  isplitl [He10]; · iexact He10
  isplitl [HO]; · iexact HO
  iintro ⟨Hd00, Hf10, %W1, HO⟩
  iapply (wp_second m ρ K c 1 (quadSlots 2 0 ++ (quadSlots 2 1 ++ [])) (later_slots 0 _ (by decide)) W1)
  isplitr; · iexact HR
  isplitr; · iexact Hlev
  isplitl [Hf01]; · iexact Hf01
  isplitl [Hu11]; · iexact Hu11
  isplitl [He11]; · iexact He11
  isplitl [HO]; · iexact HO
  iintro ⟨Hd01, Hf11, %W2, HO⟩
  -- the middle exchange
  iapply (wp_swapQ m ρ K c 0 (v1 m ρ c 0) (fun i => by fin_cases i <;> rfl) (quadSlots 2 1 ++ []) (later_slots 1 _ (by decide)) W2)
  isplitr; · iexact HR
  isplitr; · iexact Hlev
  isplitl [Hf10]; · iexact Hf10
  isplitl [Hu20]; · iexact Hu20
  isplitl [He20]; · iexact He20
  isplitl [HO]; · iexact HO
  iintro ⟨Hd10, Hf20, %W3, HO⟩
  iapply (wp_swapQ m ρ K c 1 (v1 m ρ c 1) (fun i => by fin_cases i <;> rfl) [] (fun t ht => absurd ht List.not_mem_nil) W3)
  isplitr; · iexact HR
  isplitr; · iexact Hlev
  isplitl [Hf11]; · iexact Hf11
  isplitl [Hu21]; · iexact Hu21
  isplitl [He21]; · iexact He21
  isplitl [HO]; · iexact HO
  iintro ⟨Hd11, Hf21, %W4, HO⟩
  -- the last exchange
  rw [sentQ_2 m ρ c 0, sentQ_2 m ρ c 1]
  iapply (wp_closing m ρ K c 0 f W4)
  isplitr; · iexact HR
  isplitr; · iexact Hlev
  isplitl [Hf20]; · iexact Hf20
  isplitl [Ho]; · iexact Ho
  isplitl [HO]; · iexact HO
  iintro ⟨Hd20, Ho, %W5, HO⟩
  iapply (wp_closing m ρ K c 1 (putQ 0 (v3 m ρ c 0) f) W5)
  isplitr; · iexact HR
  isplitr; · iexact Hlev
  isplitl [Hf21]; · iexact Hf21
  isplitl [Ho]; · iexact Ho
  isplitl [HO]; · iexact HO
  iintro ⟨Hd21, Ho, %W6, HO⟩
  iapply HQ
  isplitl [Hd00 Hd01 Hd10 Hd11 Hd20 Hd21]
  · isplitl [Hd00 Hd01]
    · isplitl [Hd00] <;> iassumption
    isplitl [Hd10 Hd11]
    · isplitl [Hd10] <;> iassumption
    isplitl [Hd20] <;> iassumption
  isplitl [Hz]; · iexact Hz
  isplitl [Hx]; · iexact Hx
  isplitl [Ho]; · iexact Ho
  iexists W6; iexact HO

end Cert.KernelIdealProof

end
-- ==== Proof.KernelIdealSlots.lean ====
/-
The two scratch buffers as their 24 slots, and the result's staging buffer as its eight chunks.
-/
module

public import proofs.«01_k».proof.Proof.KernelIdealWalk

@[expose] public section

noncomputable section

namespace Cert.KernelIdealProof

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

/-- The elements of a slot. -/
abbrev slotSet (s : Slot) : Finset S3x2x4x256x128.Idx := (slotR s.1 s.2.1 s.2.2).set

omit [FloatOps F] in
theorem slotSet_disjoint {s t : Slot} (h : s ≠ t) : Disjoint (slotSet s) (slotSet t) := by
  obtain ⟨p, a, i⟩ := s; obtain ⟨q, b, j⟩ := t
  by_cases hp : p = q
  · by_cases ha : a = b
    · have hi : i ≠ j := fun e => h (by rw [hp, ha, e])
      refine Rect.unit_disjoint 2 ?_
      have := Fin.val_ne_of_ne hi
      show i.val + 1 ≤ j.val ∨ j.val + 1 ≤ i.val
      omega
    · refine Rect.unit_disjoint 1 ?_
      have := Fin.val_ne_of_ne ha
      show a.val + 1 ≤ b.val ∨ b.val + 1 ≤ a.val
      omega
  · refine Rect.unit_disjoint 0 ?_
    have := Fin.val_ne_of_ne hp
    show p.val + 1 ≤ q.val ∨ q.val + 1 ≤ p.val
    omega

omit [FloatOps F] in
theorem slotSet_cover (j : S3x2x4x256x128.Idx) : ∃ s, j ∈ slotSet s := by
  refine ⟨(j 0, j 1, j 2), ?_⟩
  refine Rect.mem_set_unit.mpr fun a => ?_
  have h3 : (j 3 : ℕ) < 256 := (j 3).isLt
  have h4 : (j 4 : ℕ) < 128 := (j 4).isLt
  fin_cases a
  · exact ⟨Nat.le_refl _, Nat.lt_add_one _⟩
  · exact ⟨Nat.le_refl _, Nat.lt_add_one _⟩
  · exact ⟨Nat.le_refl _, Nat.lt_add_one _⟩
  · exact ⟨Nat.zero_le _, h3.trans_eq (Nat.zero_add _).symm⟩
  · exact ⟨Nat.zero_le _, h4.trans_eq (Nat.zero_add _).symm⟩

omit [FloatOps F] in
theorem st_set (s : Slot) : (slotM stM s.1 s.2.1 s.2.2).view.set = slotSet s :=
  (View.set_reshape _ _).trans (View.set_slice_whole cc0_scratch0 (slotR s.1 s.2.1 s.2.2))
omit [FloatOps F] in
theorem ex_set (s : Slot) : (slotM exM s.1 s.2.1 s.2.2).view.set = slotSet s :=
  (View.set_reshape _ _).trans (View.set_slice_whole cc0_scratch1 (slotR s.1 s.2.1 s.2.2))

omit [FloatOps F] in
theorem stPts_eq (c : Dev nD) (s : Slot) (f : Buf (Elt F) ((c : Thread nD τ).loc cc0_scratch0)) :
    stPts c s f = ((c : Thread nD τ).loc cc0_scratch0) ↦[slotSet s]{fullShare} f := by
  unfold stPts; rw [st_set]
omit [FloatOps F] in
theorem exPts_eq (c : Dev nD) (s : Slot) (f : Buf (Elt F) ((c : Thread nD τ).loc cc0_scratch1)) :
    exPts c s f = ((c : Thread nD τ).loc cc0_scratch1) ↦[slotSet s]{fullShare} f := by
  unfold exPts; rw [ex_set]

omit [FloatOps F] in
/-- A whole buffer split along pairwise disjoint sets that cover it. -/
theorem whole_split {ℓ : Loc nD τ sig} (D : Slot → Finset (Idx ℓ)) (hd : ∀ s t, s ≠ t → Disjoint (D s) (D t)) (hc : ∀ j, ∃ s, j ∈ D s) (f : Buf (Elt F) ℓ) :
    ((ℓ ↦{fullShare} f : sProp 𝕄)) ⊢ bigSep Finset.univ fun s => (ℓ ↦[D s]{fullShare} f : sProp 𝕄) := by
  have e : (Finset.univ.biUnion D) = Finset.univ := Finset.eq_univ_iff_forall.mpr fun j => by
    obtain ⟨s, hs⟩ := hc j; exact Finset.mem_biUnion.mpr ⟨s, Finset.mem_univ _, hs⟩
  rw [← pointsTo_biUnion Finset.univ D fun t _ t' _ h => hd t t' h, e]

omit [FloatOps F] in
/-- A buffer whose parts are held at contents of their own is held whole at some contents. -/
theorem whole_join {ℓ : Loc nD τ sig} (D : Slot → Finset (Idx ℓ)) (hd : ∀ s t, s ≠ t → Disjoint (D s) (D t)) (hc : ∀ j, ∃ s, j ∈ D s) (f₀ : Buf (Elt F) ℓ) :
    (bigSep Finset.univ fun s => iprop(∃ f, ℓ ↦[D s]{fullShare} f) : sProp 𝕄) ⊢ iprop(∃ f, ℓ ↦{fullShare} f) := by
  haveI : Nonempty (Buf (Elt F) ℓ) := ⟨f₀⟩
  have e : (Finset.univ.biUnion D) = Finset.univ := Finset.eq_univ_iff_forall.mpr fun j => by
    obtain ⟨s, hs⟩ := hc j; exact Finset.mem_biUnion.mpr ⟨s, Finset.mem_univ _, hs⟩
  iintro H
  ihave H := (bigSep_exists_pi Finset.univ (fun (s : Slot) (f : Buf (Elt F) ℓ) => (ℓ ↦[D s]{fullShare} f : sProp 𝕄))) $$ H
  icases H with ⟨%fs, H⟩
  ihave H := (pointsTo_biUnion_join Finset.univ D fs f₀ fun t _ t' _ h => hd t t' h) $$ H
  icases H with ⟨%g, -, H⟩
  rw [e]
  iexists g; iexact H

omit [FloatOps F] in
/-- A whole scratch buffer is its slots, -/
theorem st_split (c : Dev nD) :
    iprop(∃ f : Buf (Elt F) ((c : Thread nD τ).loc cc0_scratch0), ((c : Thread nD τ).loc cc0_scratch0) ↦{fullShare} f)
      ⊢ (bigSep Finset.univ (stAny c) : sProp 𝕄) := by
  iintro ⟨%f, H⟩
  iapply ((whole_split (F := F) (ℓ := (c : Thread nD τ).loc cc0_scratch0) slotSet (fun _ _ => slotSet_disjoint) slotSet_cover f).trans
    (bigSep_mono fun s _ => show _ ⊢ stAny c s from by unfold stAny; rw [← stPts_eq]; iintro H; iexists f; iexact H))
  iexact H
omit [FloatOps F] in
theorem ex_split (c : Dev nD) :
    iprop(∃ f : Buf (Elt F) ((c : Thread nD τ).loc cc0_scratch1), ((c : Thread nD τ).loc cc0_scratch1) ↦{fullShare} f)
      ⊢ (bigSep Finset.univ (exAny c) : sProp 𝕄) := by
  iintro ⟨%f, H⟩
  iapply ((whole_split (F := F) (ℓ := (c : Thread nD τ).loc cc0_scratch1) slotSet (fun _ _ => slotSet_disjoint) slotSet_cover f).trans
    (bigSep_mono fun s _ => show _ ⊢ exAny c s from by unfold exAny; rw [← exPts_eq]; iintro H; iexists f; iexact H))
  iexact H

omit [FloatOps F] in
/-- and its slots are the whole of it. -/
theorem st_join (c : Dev nD) (f₀ : Buf (Elt F) ((c : Thread nD τ).loc cc0_scratch0)) :
    (bigSep Finset.univ (stAny c) : sProp 𝕄)
      ⊢ iprop(∃ f : Buf (Elt F) ((c : Thread nD τ).loc cc0_scratch0), ((c : Thread nD τ).loc cc0_scratch0) ↦{fullShare} f) := by
  refine (bigSep_mono fun s _ => ?_).trans (whole_join (F := F) (ℓ := (c : Thread nD τ).loc cc0_scratch0) slotSet (fun _ _ => slotSet_disjoint) slotSet_cover f₀)
  unfold stAny; simp only [stPts_eq]; exact BI.Entails.refl _
omit [FloatOps F] in
theorem ex_join (c : Dev nD) (f₀ : Buf (Elt F) ((c : Thread nD τ).loc cc0_scratch1)) :
    (bigSep Finset.univ (exAny c) : sProp 𝕄)
      ⊢ iprop(∃ f : Buf (Elt F) ((c : Thread nD τ).loc cc0_scratch1), ((c : Thread nD τ).loc cc0_scratch1) ↦{fullShare} f) := by
  refine (bigSep_mono fun s _ => ?_).trans (whole_join (F := F) (ℓ := (c : Thread nD τ).loc cc0_scratch1) slotSet (fun _ _ => slotSet_disjoint) slotSet_cover f₀)
  unfold exAny; simp only [exPts_eq]; exact BI.Entails.refl _

/-! ## The chunks of the result -/

omit [FloatOps F] in
theorem rows_disjoint {h h' : Fin 2} {i i' : Fin 4} (hne : (h, i) ≠ (h', i')) : Disjoint (rowsR h i).set (rowsR h' i').set := by
  by_cases hh : h = h'
  · have hi : i ≠ i' := fun e => hne (by rw [hh, e])
    refine Rect.unit_disjoint 0 ?_
    have := Fin.val_ne_of_ne hi
    show 256 * i.val + 256 ≤ 256 * i'.val ∨ 256 * i'.val + 256 ≤ 256 * i.val
    omega
  · refine Rect.unit_disjoint 1 ?_
    have := Fin.val_ne_of_ne hh
    show 128 * h.val + 128 ≤ 128 * h'.val ∨ 128 * h'.val + 128 ≤ 128 * h.val
    omega

omit [FloatOps F] in
/-- Every entry of a device's rows lies in a chunk. -/
theorem rows_cover (j : S1024x256.Idx) : ∃ (h : Fin 2) (i : Fin 4) (x : (rowsR h i).shape.Idx), (rowsR h i).emb x = j := by
  have h0 : (j 0 : ℕ) < 1024 := (j 0).isLt
  have h1 : (j 1 : ℕ) < 256 := (j 1).isLt
  refine ⟨⟨(j 1 : ℕ) / 128, by omega⟩, ⟨(j 0 : ℕ) / 256, by omega⟩, ?_⟩
  have hm : j ∈ (rowsR ⟨(j 1 : ℕ) / 128, by omega⟩ ⟨(j 0 : ℕ) / 256, by omega⟩).set := by
    refine Rect.mem_set_unit.mpr fun a => ?_
    fin_cases a
    · show 256 * ((j 0 : ℕ) / 256) ≤ (j 0 : ℕ) ∧ (j 0 : ℕ) < 256 * ((j 0 : ℕ) / 256) + 256
      omega
    · show 128 * ((j 1 : ℕ) / 128) ≤ (j 1 : ℕ) ∧ (j 1 : ℕ) < 128 * ((j 1 : ℕ) / 128) + 128
      omega
  rw [← Rect.map_emb_univ] at hm
  obtain ⟨x, _, e⟩ := Finset.mem_map.mp hm
  exact ⟨x, e⟩

omit [FloatOps F] in
theorem put_same (h : Fin 2) (i : Fin 4) (v : FVec F Ch .f32) (f : (cc0_stg1_0 : Ref sig .tc).ty.Contents (Elt F)) (x : (rowsR h i).shape.Idx) :
    put h i v f ((rowsR h i).emb x) = v x :=
  View.write_emb_of_mem (v := oM.access (rowsR h i)) f v (Finset.mem_univ x)

omit [FloatOps F] in
theorem put_other {h h' : Fin 2} {i i' : Fin 4} (hne : (h, i) ≠ (h', i')) (v : FVec F Ch .f32) (f : (cc0_stg1_0 : Ref sig .tc).ty.Contents (Elt F))
    (x : (rowsR h' i').shape.Idx) : put h i v f ((rowsR h' i').emb x) = f ((rowsR h' i').emb x) := by
  refine View.write_of_not_mem (v := oM.access (rowsR h i)) f v Finset.univ fun hm => ?_
  have h1 : (rowsR h' i').emb x ∈ (rowsR h i).set := by
    rw [← View.set_slice_whole cc0_stg1_0 (rowsR h i)]; exact hm
  have h2 : (rowsR h' i').emb x ∈ (rowsR h' i').set := by
    rw [← Rect.map_emb_univ]; exact Finset.mem_map_of_mem _ (Finset.mem_univ x)
  exact Finset.disjoint_left.mp (rows_disjoint hne) h1 h2

theorem outOver_at (c : Dev nD) (f : (cc0_stg1_0 : Ref sig .tc).ty.Contents (Elt F)) (h : Fin 2) (i : Fin 4) (x : (rowsR h i).shape.Idx) :
    outOver m ρ c f ((rowsR h i).emb x) = (v3 m ρ c h).at i x := by
  have peel : ∀ (h' : Fin 2) (q : Quad F) (g : (cc0_stg1_0 : Ref sig .tc).ty.Contents (Elt F)), h' ≠ h → putQ h' q g ((rowsR h i).emb x) = g ((rowsR h i).emb x) := by
    intro h' q g hh
    have hne : ∀ i' : Fin 4, (h', i') ≠ (h, i) := fun _ e => hh (congrArg Prod.fst e)
    unfold putQ
    rw [put_other (hne 3), put_other (hne 2), put_other (hne 1), put_other (hne 0)]
  have hit : ∀ (q : Quad F) (g : (cc0_stg1_0 : Ref sig .tc).ty.Contents (Elt F)), putQ h q g ((rowsR h i).emb x) = q.at i x := by
    intro q g
    have hne : ∀ i' : Fin 4, i' ≠ i → (h, i') ≠ (h, i) := fun _ hi e => hi (congrArg Prod.snd e)
    unfold putQ
    by_cases h3 : i = 3
    · subst h3; rw [put_same]; rfl
    rw [put_other (hne 3 (Ne.symm h3))]
    by_cases h2 : i = 2
    · subst h2; rw [put_same]; rfl
    rw [put_other (hne 2 (Ne.symm h2))]
    by_cases h1 : i = 1
    · subst h1; rw [put_same]; rfl
    rw [put_other (hne 1 (Ne.symm h1))]
    have h0 : i = 0 := by omega
    subst h0; rw [put_same]; rfl
  unfold outOver
  by_cases hh : h = 1
  · subst hh; exact hit _ _
  · rw [peel 1 _ _ (Ne.symm hh)]
    have h0 : h = 0 := by omega
    subst h0; exact hit _ _

/-- What the result's staging buffer holds at the end. -/
def outAt (c : Dev nD) : (cc0_stg1_0 : Ref sig .tc).ty.Contents (Elt F) := outOver m ρ c (xstg m ρ c)

theorem outOver_eq (c : Dev nD) (f : (cc0_stg1_0 : Ref sig .tc).ty.Contents (Elt F)) : outOver m ρ c f = outAt m ρ c := by
  funext j
  obtain ⟨h, i, x, rfl⟩ := rows_cover j
  exact (outOver_at m ρ c f h i x).trans (outOver_at m ρ c _ h i x).symm

end Cert.KernelIdealProof

end
-- ==== Proof.KernelIdealLaunch.lean ====
/-
The launch: what each device starts from, how the cells' invariants, tokens and credits are dealt, and the run of the
whole program with the contents every device ends with.
-/
module

public import proofs.«01_k».proof.Proof.KernelIdealSlots
public import Idealize.ShloMosaic.Lib.Pipeline.CollectiveSegs

@[expose] public section

noncomputable section

namespace Cert.KernelIdealProof

open Cert.KernelIdeal Cert.KernelIdeal.Gen Cert.Bitonic

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The ghost state a device is dealt: the records, its place at the handshake, and its positions and tokens for every slot. -/
def dealt (c : Dev nD) : sProp 𝕄 :=
  iprop(∃ K, records m ρ K ∗ gate c ∗ bigSep Finset.univ (seat (F := F) c) ∗ bigSep Finset.univ (toks c))
/-- What the body starts from: that, the credits of its barrier cell and receive cells, and the levels. -/
def start (c : Dev nD) : sProp 𝕄 :=
  iprop(dealt m ρ c ∗ cred (tallyAt (barCell c) () 2) ∗ bigSep Finset.univ (due (F := F) c) ∗ levAts L lv)

/-- Before the point: the start and both scratch buffers whole. -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: every slot of both buffers, every counter of the device at zero. -/
def Φ₁ (c : Dev nD) : sProp 𝕄 := iprop(bigSep Finset.univ (done (F := F) c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The one grid point. -/
abbrev t₀ : Fin cfg0.N := t0_0

theorem fetched (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The printed body, from what the pipeline hands it to what it hands back. -/
theorem sound_body (c : Dev nD) :
    bodyPre m ρ c ⊢ Runs c (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
      (fun _ => bodyPost m ρ c) := by
  rw [body_eq]
  unfold body Runs
  simp only [Prog.lift, Prog.bind_op, Prog.bind_ret, wp_deviceId]
  unfold bodyPre Φ₀ start dealt
  iintro ⟨⟨⟨⟨%K, #HR, Hg, Hseat, Htok⟩, HcB, Hdue, #Hlev⟩, Hst, Hex⟩, Ho, ⟨%d0, %g0, %hg0, Hx⟩, ⟨%d1, %g1, %hg1, Hout⟩⟩
  have hx : g0 = xstg m ρ c := by rw [hg0]; unfold Dat.before; rw [if_pos (fetched t₀)]; rfl
  subst hx
  unfold Dat.owesAt Pipeline.owesWithin
  icases Ho with ⟨%W, %hW, HO⟩
  rw [show (dats m ρ 0 c).owed t₀.castSucc = O₀ c from rfl]
  ihave Hst := (st_split (F := F) c) $$ Hst
  ihave Hex := (ex_split (F := F) c) $$ Hex
  iapply (wp_body m ρ K c g1 W)
  isplitr; · iexact HR
  isplitr; · iexact Hlev
  isplitl [Hg]; · iexact Hg
  isplitl [HcB]; · iexact HcB
  isplitl [Hseat Htok Hdue Hst]
  · unfold unsent; rw [bigSep_sep', bigSep_sep', bigSep_sep']
    isplitl [Hseat]; · iexact Hseat
    isplitl [Htok]; · iexact Htok
    isplitl [Hdue]; · iexact Hdue
    iexact Hst
  isplitl [Hex]; · iexact Hex
  isplitl [Hx]; · iexact Hx
  isplitl [Hout]; · iexact Hout
  isplitl [HO]; · iexact HO
  iintro ⟨Hd, Hz, Hx, Hout, %W', HO⟩
  unfold bodyPost Φ₁ Dat.owesAt Pipeline.owesWithin
  rw [show (dats m ρ 0 c).owed t₀.succ = 0 from rfl]
  isplitl [Hd Hz]
  · isplitl [Hd] <;> iassumption
  isplitl [HO]
  · iexists W'
    isplitr; · ipureintro; exact fun _ _ => Or.inl trivial
    iexact HO
  isplitl [Hx]
  · iexists _; isplitr; · (ipureintro; rfl)
    iexact Hx
  iexists _; isplitr; rotate_left
  · iexact Hout
  · ipureintro; exact outOver_eq m ρ c g1

set_option maxRecDepth 100000 in
/-- The pipeline's obligation on the body of device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
      (fun _ => bodyPost m ρ c)
  exact sound_body m ρ c

/-! ## The cells and tokens of the launch -/

omit [FloatOps F] in
theorem ownSemFacts : Pipeline.OwnSemFacts cfg0.spec osem where
  isScoped k := by
    rcases k with s | s
    · obtain ⟨p, h, i⟩ := s; revert p h i; decide +kernel
    · obtain ⟨p, h, i⟩ := s; revert p h i; decide +kernel
  inj := osem_inj
  disj k w s h := by
    have hw : ∀ (w : Fin 2) (s : Fin (cfg0.spec w).nbuf), ((cfg0.spec w).sem s).val < 2 := by decide
    have := hw w s
    rcases k with t | t
    · have e := congrArg Fin.val (SemLoc.dma.inj h); rw [sndS_val] at e; omega
    · have e := congrArg Fin.val (SemLoc.dma.inj h); rw [rcvS_val] at e; omega

theorem share_eq (c : Dev nD) (w : Fin cfg0.W) : (dats m ρ 0 c).share w = fullShare := by unfold Dat.share; split <;> rfl

omit [FloatOps F] in
theorem csem_inj : Function.Injective csem := by
  rintro (⟨⟩ | k) (⟨⟩ | k') h
  · rfl
  · exact absurd h.symm (osem_ne_bar k')
  · exact absurd h (osem_ne_bar k)
  · exact congrArg _ (osem_inj h)

omit [FloatOps F] in
theorem dev_of_cell {c c' : Dev nD} {a b : SemLoc sig} (h : (((c : Thread nD τ), a) : GSem nD τ sig) = ((c' : Thread nD τ), b)) : c = c' := by
  have := congrArg (fun g : GSem nD τ sig => g.1.1) h; exact this

omit [FloatOps F] in
theorem kcell_inj : Function.Injective (kcell : Dev nD × Key → GSem nD τ sig) := by
  rintro ⟨c, k⟩ ⟨c', k'⟩ h
  obtain rfl : c = c' := dev_of_cell h
  exact congrArg _ (csem_inj (congrArg Prod.snd h : csem k = csem k'))

/-- Every cell of the protocol. -/
def allCells : Finset (GSem nD τ sig) := Finset.univ.map ⟨kcell, kcell_inj⟩

/-- A device's duty tokens as minted: two for its barrier cell, one for each send and receive cell. -/
abbrev Mint : Type := Bool ⊕ (Slot ⊕ Slot)
abbrev mintOf (cj : Dev nD × Mint) : GSem nD τ sig × ℕ × Bool :=
  match cj.2 with
  | .inl d => (barCell cj.1, 0, d)
  | .inr k => (((cj.1 : Thread nD τ), osem k), 0, false)

omit [FloatOps F] in
theorem mintOf_inj : Function.Injective mintOf := by
  rintro ⟨c, j⟩ ⟨c', j'⟩ h
  rcases j with d | k <;> rcases j' with d' | k'
  · obtain rfl : c = c' := dev_of_cell (congrArg Prod.fst h)
    rw [show d = d' from congrArg (fun x => x.2.2) h]
  · exact absurd (congrArg (fun x => x.1.2) h).symm (osem_ne_bar k')
  · exact absurd (congrArg (fun x => x.1.2) h) (osem_ne_bar k)
  · obtain rfl : c = c' := dev_of_cell (congrArg Prod.fst h)
    rw [osem_inj (congrArg (fun x => x.1.2) h : osem k = osem k')]

def allToks : Finset (GSem nD τ sig × ℕ × Bool) := Finset.univ.map ⟨mintOf, mintOf_inj⟩

def u₀ : UU :=
  (initOf (Pipeline.cells cfgs cellOf_inj) (Pipeline.launchToks cfgs cellOf_inj), initOf allCells allToks)

/-- The tokens of a device's own cells. -/
def minted (c : Dev nD) : sProp 𝕄 :=
  bigSep Finset.univ fun j : Mint => dutyTok ER (mintOf (c, j)).1 (mintOf (c, j)).2.1 (mintOf (c, j)).2.2

/-- What the initial element deals device `c`. -/
def G (c : Dev nD) : sProp 𝕄 :=
  iprop((bigSep Finset.univ fun k : Key => roundState ER (sched m ρ) (kcell (c, k)) 0)
    ∗ (bigSep Finset.univ fun k : Key => (atPos ER (kcell (c, k)) 0 ∅ 0 : sProp 𝕄))
    ∗ (bigSep Finset.univ fun k : Key => (reached ER (kcell (c, k)) 0 : sProp 𝕄)) ∗ minted c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Key => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  unfold G; simp only [bigSep_sep']
  iintro HX
  imod (Rounds.fund ER (sched m ρ) allCells allToks) $$ HX with ⟨Hst, Hr, Hat, Htok⟩
  imodintro
  isplitl [Hst]; · iapply (Entails.of_eq (hX fun g => roundState ER (sched m ρ) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem bigSep_key (Φ : Key → sProp 𝕄) : bigSep Finset.univ Φ
    = iprop(Φ (.inl ()) ∗ (bigSep Finset.univ fun s => Φ (.inr (.inl s))) ∗ bigSep Finset.univ fun s => Φ (.inr (.inr s))) := by
  rw [bigSep_univ_sum, bigSep_univ_sum, bigSep_univ_eq_bigSepL [()] (by decide) (by decide) (fun u => Φ (.inl u))]; rfl

omit [FloatOps F] in
theorem bigSep_own (Φ : Slot ⊕ Slot → sProp 𝕄) : bigSep Finset.univ Φ
    = iprop((bigSep Finset.univ fun s => Φ (.inl s)) ∗ bigSep Finset.univ fun s => Φ (.inr s)) := bigSep_univ_sum Φ

omit [FloatOps F] in
theorem bigSep_cells (Φ : Key → sProp 𝕄) : bigSep Finset.univ Φ
    = iprop(Φ (.inl ()) ∗ bigSep Finset.univ fun k => Φ (.inr k)) := by
  rw [bigSep_univ_sum, bigSep_univ_eq_bigSepL [()] (by decide) (by decide) (fun u => Φ (.inl u))]; rfl

omit [FloatOps F] in
/-- A device's counters, all at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [unscopedSems0_eq, bigSep_cells]
  unfold Pipeline.ownSems0
  iintro ⟨HS, HB⟩
  isplitl [HB]; · iexact HB
  iexact HS

/-- A device's cells allocated at names of their own. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (sched m ρ) κ (kcell (c, k))))
          ∗ (bigSep Finset.univ fun k : Key => (atPos ER (kcell (c, k)) 0 ∅ 0 : sProp 𝕄))
          ∗ (bigSep Finset.univ fun k : Key => (reached ER (kcell (c, k)) 0 : sProp 𝕄)) ∗ minted c) := by
  unfold G
  iintro ⟨Hos, Hus, Hst, Hat, Hr, Htok⟩
  ihave Hv := (sems0 (F := F) c) $$ [Hos Hus]
  · isplitl [Hos] <;> iassumption
  imod (show iprop((bigSep Finset.univ fun k : Key => semVal (kcell (c, k)) 0) ∗ bigSep Finset.univ fun k : Key => roundState ER (sched m ρ) (kcell (c, k)) 0)
      ⊢ (|={Set.univ}=> bigSep Finset.univ fun k : Key => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- The partner maps as permutations of the devices, -/
def paE : Dev nD ≃ Dev nD := ⟨pa, pa, pa_pa, pa_pa⟩
def pbE : Dev nD ≃ Dev nD := ⟨pb, pb, pb_pb, pb_pb⟩
/-- and of the receive cells. -/
def mateE : Dev nD × Slot ≃ Dev nD × Slot :=
  ⟨fun x => (mate x.2.1 x.1, x.2), fun x => (mate x.2.1 x.1, x.2), fun x => by dsimp only; rw [mate_mate], fun x => by dsimp only; rw [mate_mate]⟩

/-- What stays with device `c`. -/
def linear (c : Dev nD) : sProp 𝕄 := iprop(gate (F := F) c ∗ bigSep Finset.univ (seat c) ∗ bigSep Finset.univ (toks c))

omit [FloatOps F] in
/-- The positions stay with their device; each token goes to the device that pays its duty. -/
theorem deal_around :
    iprop((bigSep Finset.univ fun c : Dev nD => bigSep Finset.univ fun k : Key => (atPos ER (kcell (c, k)) 0 ∅ 0 : sProp 𝕄))
        ∗ bigSep Finset.univ fun c : Dev nD => (minted c : sProp 𝕄))
      ⊢ bigSep Finset.univ fun c : Dev nD => (linear c : sProp 𝕄) := by
  have hm : ∀ c : Dev nD, (minted c : sProp 𝕄) = iprop((dutyTok ER (barCell c) 0 false ∗ dutyTok ER (barCell c) 0 true)
      ∗ (bigSep Finset.univ fun s : Slot => dutyTok ER (sendCell c s) 0 false) ∗ bigSep Finset.univ fun s : Slot => dutyTok ER (recvCell c s) 0 false) := by
    intro c; unfold minted
    rw [bigSep_univ_sum, bigSep_univ_sum, bigSep_univ_eq_bigSepL [false, true] (by decide) (by decide)]
    rfl
  have hr : (bigSep Finset.univ fun c : Dev nD => bigSep Finset.univ fun s : Slot => (dutyTok ER (recvCell c s) 0 false : sProp 𝕄))
      = bigSep Finset.univ fun c : Dev nD => bigSep Finset.univ fun s : Slot => (dutyTok ER (recvCell (mate s.1 c) s) 0 false : sProp 𝕄) := by
    rw [← bigSep_univ_prod (fun x : Dev nD × Slot => (dutyTok ER (recvCell x.1 x.2) 0 false : sProp 𝕄)),
      bigSep_univ_equiv mateE, bigSep_univ_prod]
    rfl
  unfold linear gate seat toks
  simp only [hm, bigSep_key, bigSep_sep']
  rw [hr, bigSep_univ_equiv paE (fun c : Dev nD => (dutyTok ER (barCell c) 0 false : sProp 𝕄)),
    bigSep_univ_equiv pbE (fun c : Dev nD => (dutyTok ER (barCell c) 0 true : sProp 𝕄))]
  iintro ⟨⟨HaB, HaS, HaV⟩, ⟨HtA, HtB⟩, HtS, HtV⟩
  isplitl [HaB HtA HtB]
  · isplitl [HaB]; · iexact HaB
    isplitl [HtA]; · iexact HtA
    iexact HtB
  isplitl [HaS HaV]
  · isplitl [HaS]; · iexact HaS
    iexact HaV
  isplitl [HtS]; · iexact HtS
  iexact HtV

theorem linear_dealt (K : Dev nD × Key → ℕ) (c : Dev nD) : iprop(records m ρ K ∗ linear c) ⊢ dealt m ρ c := by
  unfold linear dealt
  iintro ⟨#HR, Hg, Hs, Ht⟩
  iexists K
  isplitr; · iexact HR
  isplitl [Hg]; · iexact Hg
  isplitl [Hs] <;> iassumption

/-- All devices' allocations regrouped: the records are everyone's. -/
theorem regroup :
    (bigSep Finset.univ fun c : Dev nD => iprop((bigSep Finset.univ fun k : Key => iprop(∃ κ : ℕ, cellInv ER (sched m ρ) κ (kcell (c, k))))
          ∗ (bigSep Finset.univ fun k : Key => (atPos ER (kcell (c, k)) 0 ∅ 0 : sProp 𝕄))
          ∗ (bigSep Finset.univ fun k : Key => (reached ER (kcell (c, k)) 0 : sProp 𝕄)) ∗ minted c) : sProp 𝕄)
      ⊢ bigSep Finset.univ (dealt m ρ) := by
  classical
  rw [bigSep_sep', bigSep_sep', bigSep_sep',
    ← bigSep_univ_prod (fun ck : Dev nD × Key => iprop(∃ κ : ℕ, cellInv ER (sched m ρ) κ (kcell ck))),
    ← bigSep_univ_prod (fun ck : Dev nD × Key => (reached ER (kcell ck) 0 : sProp 𝕄))]
  iintro ⟨HI, Hat, #Hr, Htok⟩
  ihave HK := (BI.bigSep_exists_pi Finset.univ (fun (ck : Dev nD × Key) (κ : ℕ) => (cellInv ER (sched m ρ) κ (kcell ck) : sProp 𝕄))) $$ HI
  icases HK with ⟨%K, #HI⟩
  ihave Hlin := (deal_around (F := F)) $$ [Hat Htok]
  · isplitl [Hat] <;> iassumption
  iapply (show iprop(records m ρ K ∗ bigSep Finset.univ fun c : Dev nD => (linear c : sProp 𝕄)) ⊢ bigSep Finset.univ (dealt m ρ) from by
    refine (sep_mono_left (BI.bigSep_of_persistent (Finset.univ : Finset (Dev nD)) (records m ρ K))).trans ?_
    rw [← bigSep_sep']
    exact bigSep_mono fun c _ => linear_dealt m ρ K c)
  isplitr
  · unfold records; isplitl; · iexact HI
    iexact Hr
  · iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The credits of the launch -/

omit [FloatOps F] in
theorem bar_cell_iff {a b : Dev nD} : barCell a = barCell b ↔ a = b := ⟨dev_of_cell, fun h => h ▸ rfl⟩

omit [FloatOps F] in
theorem recv_cell_iff {a b : Dev nD} {s t : Slot} : recvCell a s = recvCell b t ↔ a = b ∧ s = t :=
  ⟨fun h => ⟨dev_of_cell h, recv_inj (congrArg Prod.snd h)⟩, fun ⟨h, h'⟩ => by rw [h, h']⟩

omit [FloatOps F] in
theorem debt_bar (d c : Dev nD) (l : List Slot) : debt d l (barCell c) () = 0 :=
  Nat.eq_zero_of_not_pos fun h => by
    obtain ⟨s, _, e⟩ := debt_pos h
    exact recv_ne_bar s (congrArg Prod.snd e).symm

omit [FloatOps F] in
theorem debt_recv (d c : Dev nD) (s : Slot) (l : List Slot) (hl : l.Nodup) :
    debt d l (recvCell c s) () = if s ∈ l ∧ mate s.1 d = c then N else 0 := by
  induction l with
  | nil => rw [if_neg (fun h => List.not_mem_nil h.1)]; rfl
  | cons t l ih =>
    obtain ⟨ht, hl⟩ := List.nodup_cons.mp hl
    unfold debt
    rw [Pi.add_apply, Finsupp.add_apply, tallyAt_apply, ih hl]
    by_cases hs : s = t
    · subst hs
      rw [if_neg (fun h => ht h.1), Nat.zero_add]
      by_cases hc : mate s.1 d = c
      · rw [if_pos ⟨by rw [hc], rfl⟩, if_pos ⟨List.mem_cons_self, hc⟩]
      · rw [if_neg (fun h => hc (recv_cell_iff.mp h.1).1.symm), if_neg (fun h => hc h.2)]
    · rw [if_neg (fun h : recvCell c s = recvCell (mate t.1 d) t ∧ () = () => hs (recv_cell_iff.mp h.1).2), Nat.add_zero]
      by_cases h : s ∈ l ∧ mate s.1 d = c
      · rw [if_pos h, if_pos ⟨List.mem_cons_of_mem _ h.1, h.2⟩]
      · rw [if_neg h, if_neg (fun h' => h ⟨(List.mem_cons.mp h'.1).resolve_left hs, h'.2⟩)]

omit [FloatOps F] in
theorem owed_bar (d c : Dev nD) : O₀ d (barCell c) () = (if d = pb c then 1 else 0) + (if d = pa c then 1 else 0) := by
  unfold O₀ O₁
  rw [Pi.add_apply, Finsupp.add_apply, Pi.add_apply, Finsupp.add_apply, tallyAt_apply, tallyAt_apply, debt_bar, Nat.zero_add]
  congr 1
  · by_cases h : d = pb c
    · subst h; rw [pb_pb, if_pos ⟨rfl, rfl⟩, if_pos rfl]
    · rw [if_neg (fun h' => h (by rw [bar_cell_iff.mp h'.1, pb_pb])), if_neg h]
  · by_cases h : d = pa c
    · subst h; rw [pa_pa, if_pos ⟨rfl, rfl⟩, if_pos rfl]
    · rw [if_neg (fun h' => h (by rw [bar_cell_iff.mp h'.1, pa_pa])), if_neg h]

omit [FloatOps F] in
theorem owed_recv (d c : Dev nD) (s : Slot) : O₀ d (recvCell c s) () = if d = mate s.1 c then N else 0 := by
  unfold O₀ O₁
  rw [Pi.add_apply, Finsupp.add_apply, Pi.add_apply, Finsupp.add_apply, tallyAt_ne_cell (fun h => recv_ne_bar s (congrArg Prod.snd h)),
    tallyAt_ne_cell (fun h => recv_ne_bar s (congrArg Prod.snd h)), Finsupp.zero_apply, Nat.add_zero, Nat.add_zero, debt_recv d c s order order_nodup]
  by_cases h : d = mate s.1 c
  · subst h; rw [if_pos ⟨mem_order s, mate_mate _ _⟩, if_pos rfl]
  · rw [if_neg (fun h' => h (by rw [← h'.2, mate_mate])), if_neg h]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]

omit [FloatOps F] in
theorem launch_recv (c : Dev nD) (s : Slot) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (mate s.1 c) fun _ => N, if_pos (Finset.mem_univ _)]

/-- The receive semaphores of the slots. -/
def rcvEmb : Slot ↪ SemLoc sig := ⟨fun s => .dma (rcvS s), fun _ _ h => recv_inj h⟩

omit [FloatOps F] in
theorem due_of_launch (c : Dev nD) :
    (bigSep (Finset.univ.erase (SemLoc.reg barS)) fun sm : SemLoc sig => cred (tallyOn ((c : Thread nD τ), sm) (launchCredit (Pipeline.owing O₀) 0 ((c : Thread nD τ), sm))) : sProp 𝕄)
      ⊢ bigSep Finset.univ (due c) := by
  have hs : Finset.univ.map rcvEmb ⊆ Finset.univ.erase (SemLoc.reg barS) := fun sm h => by
    obtain ⟨s, _, rfl⟩ := Finset.mem_map.mp h
    exact Finset.mem_erase.mpr ⟨recv_ne_bar s, Finset.mem_univ _⟩
  refine (bigSep_subset (M := 𝕄) hs).trans ?_
  rw [bigSep_map]
  refine bigSep_mono fun s _ => ?_
  unfold due
  exact Entails.of_eq (congrArg (fun x => (cred x : sProp 𝕄)) (launch_recv c s))

omit [FloatOps F] in
theorem creds (c : Dev nD) :
    (Pipeline.launchCred O₀ c : sProp 𝕄) ⊢ iprop(cred (tallyAt (barCell c) () 2) ∗ bigSep Finset.univ (due c)) := by
  unfold Pipeline.launchCred
  rw [bigSep_univ_at _ (SemLoc.reg barS), launch_bar]
  exact sep_mono_right (P := cred (tallyAt (barCell c) () 2)) (due_of_launch c)

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ done Pipeline.ownSems0
  rw [bigSep_sep', bigSep_sep', bigSep_sep', bigSep_own]
  iintro ⟨⟨Hst, Hex, HzS, HzV⟩, HzB⟩
  isplitl [HzB]; · iexact HzB
  isplitl [HzS HzV]
  · isplitl [HzS]; · iexact HzS
    iexact HzV
  isplitl [Hst]
  · iapply (st_join (F := F) c (m _)); iexact Hst
  · iapply (ex_join (F := F) c (m _)); iexact Hex

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun u h => ownSemFacts.disj (.inr u) w s (congrArg SemLoc.dma h.symm)) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the four devices terminates, with
    every device's arrays at the contents above and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it was. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array, read as one block, is what the body left. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.KernelIdealProof

end
-- ==== Proof.Stages.lean ====
/-
The stages of the kernel read one column at a time, at the ideal instance: a stage on a chunk is a stage of a
compare-exchange network on the chunk's 256 rows, and the runs of stages between two exchanges are networks on a device's
1024 rows.
-/
module

public import proofs.«01_k».proof.Proof.Ops
public import Idealize.ShloMosaic.PureOps.Ideal
public import Idealize.ShloMosaic.Lib.SortNet.Sorts
public import Idealize.ShloMosaic.Lib.SortNet.Printed
public import Idealize.ShloMosaic.Lib.Pipeline.Value

@[expose] public section

noncomputable section

namespace Cert.Bitonic

open Idealize.ShloMosaic
open Idealize.ShloMosaic.SortNet (Network chunkPos levelNet levelsNet sortNet)

/-! ## Indices -/

/-- Row `r`, column `x` of a chunk. -/
def chx (r : Fin (2 ^ 8)) (x : Fin 128) : Ch.Idx := fun a => match a with
  | ⟨0, _⟩ => r
  | ⟨1, _⟩ => x

/-- Row `r` of the flags. -/
def colx (r : Fin (2 ^ 8)) : Col.Idx := fun a => match a with
  | ⟨0, _⟩ => r
  | ⟨1, _⟩ => (0 : Fin 1)

/-- Is bit `j` of row `r` clear? -/
abbrev clear (j : ℕ) (r : Fin (2 ^ 8)) : Bool := decide (r.val &&& 2 ^ j = 0)

/-! ## The masks -/

theorem bit_at (j : Fin 8) (r : Fin (2 ^ 8)) : bit j (colx r) = BitVec.ofBool (clear j.val r) := by
  revert j r; decide +kernel

theorem xori_bool (a b : Bool) : IntOp.xori (BitVec.ofBool a) (BitVec.ofBool b) = BitVec.ofBool (a ^^ b) := SortNet.ofBool_xor a b

theorem neg_at (k : IVec Col 1) (r : Fin (2 ^ 8)) (a : Bool) (h : k (colx r) = BitVec.ofBool a) : neg k (colx r) = BitVec.ofBool (!a) := by
  show IntOp.xori (k (colx r)) 1#1 = _
  rw [h]; cases a <;> rfl

theorem flipped_at (f : Bool) (k : IVec Col 1) (r : Fin (2 ^ 8)) (a : Bool) (h : k (colx r) = BitVec.ofBool a) :
    flipped (BitVec.ofBool f) k (colx r) = BitVec.ofBool (a ^^ f) := by
  show IntOp.xori (k (colx r)) (BitVec.ofBool f) = _
  rw [h]; exact xori_bool a f

theorem agree_at (k j : Fin 8) (r : Fin (2 ^ 8)) : agree k j (colx r) = BitVec.ofBool (!(clear k.val r ^^ clear j.val r)) := by
  refine neg_at _ r _ ?_
  show IntOp.xori (bit k (colx r)) (bit j (colx r)) = _
  rw [bit_at, bit_at, xori_bool]

/-- The flags spread over a chunk. -/
theorem spread_at (k : IVec Col 1) (r : Fin (2 ^ 8)) (x : Fin 128) :
    broadcastTo Ch (shapeCast Col k cast_col) bcast_ch (chx r x) = k (colx r) := by
  rw [shapeCast_self]
  refine broadcastTo_apply k bcast_ch (chx r x) (colx r) fun a => ?_
  match a with
  | ⟨0, _⟩ => rfl
  | ⟨1, _⟩ => rfl

/-! ## The partner -/

theorem partner_at {F : FTy → Type} [FloatOps F] (j : Fin 8) (v : FVec F Ch .f32) (r : Fin (2 ^ 8)) (x : Fin 128) :
    partner j v (chx r x) = v (chx (SortNet.partner 8 j.val r) x) := by
  unfold partner
  rw [ValueIdx.select_apply, spread_at, bit_at, SortNet.select_ofBool]
  by_cases h : r.val &&& 2 ^ j.val = 0
  · rw [show clear j.val r = true from decide_eq_true h, if_pos rfl]
    have e := SortNet.partner_val_of_clear j.isLt r h
    have hlt : r.val + 2 ^ j.val < 256 := by rw [← e]; exact (SortNet.partner 8 j.val r).isLt
    let i : (Rows (256 - 2 ^ j.val)).Idx := fun a => match a with
      | ⟨0, _⟩ => (⟨r.val, by omega⟩ : Fin (256 - 2 ^ j.val))
      | ⟨1, _⟩ => x
    refine (concatenate_pair_apply_left (s₁ := Rows (256 - 2 ^ j.val)) (s₂ := Rows (2 ^ j.val)) 0 _ _ _ (chx r x) rfl i fun b => ?_).trans ?_
    · match b with
      | ⟨0, _⟩ => rfl
      | ⟨1, _⟩ => rfl
    · refine extractStridedSlice_apply _ v _ i _ fun a => ?_
      match a with
      | ⟨0, _⟩ => exact e.trans (Nat.add_comm _ _)
      | ⟨1, _⟩ => exact (Nat.zero_add _).symm
  · rw [show clear j.val r = false from decide_eq_false h, if_neg Bool.false_ne_true]
    obtain ⟨hle, e⟩ := SortNet.partner_val_of_set j.isLt r h
    have hr : r.val < 256 := r.isLt
    let i : (Rows (256 - 2 ^ j.val)).Idx := fun a => match a with
      | ⟨0, _⟩ => (⟨r.val - 2 ^ j.val, by omega⟩ : Fin (256 - 2 ^ j.val))
      | ⟨1, _⟩ => x
    refine (concatenate_pair_apply_right (s₁ := Rows (2 ^ j.val)) (s₂ := Rows (256 - 2 ^ j.val)) 0 _ _ _ (chx r x) rfl rfl i (fun b hb => ?_) ?_).trans ?_
    · match b with
      | ⟨0, _⟩ => exact absurd rfl hb
      | ⟨1, _⟩ => rfl
    · exact Nat.sub_add_cancel hle
    · refine extractStridedSlice_apply _ v _ i _ fun a => ?_
      match a with
      | ⟨0, _⟩ => exact e.trans (Nat.zero_add _).symm
      | ⟨1, _⟩ => exact (Nat.zero_add _).symm

/-! ## One stage on a column of a chunk -/

/-- Column `x` of a chunk. -/
def cc (v : FVec Ideal Ch .f32) (x : Fin 128) : Fin (2 ^ 8) → EReal := fun r => v (chx r x)

/-- A stage whose flags are the stage's lower rows, negated where `w` asks for descending order. -/
theorem stage_cc (j : Fin 8) (keep : IVec Col 1) (w : Fin (2 ^ 8) → Bool)
    (hk : ∀ r, keep (colx r) = BitVec.ofBool (clear j.val r ^^ w r)) (hw : ∀ r, w (SortNet.partner 8 j.val r) = w r)
    (v : FVec Ideal Ch .f32) (x : Fin 128) :
    cc (stage j keep v) x = Network.apply (SortNet.stage 8 j.val w) (cc v x) := by
  funext r
  have e : cc (stage j keep v) x r
      = if (clear j.val r ^^ w r) then min (cc v x r) (cc v x (SortNet.partner 8 j.val r)) else max (cc v x r) (cc v x (SortNet.partner 8 j.val r)) := by
    show select _ _ _ (chx r x) = _
    rw [ValueIdx.select_apply, spread_at, hk, SortNet.select_ofBool]
    show (if _ then min (v (chx r x)) (partner j v (chx r x)) else max (v (chx r x)) (partner j v (chx r x))) = _
    rw [partner_at]; rfl
  rw [e]
  by_cases h : r.val &&& 2 ^ j.val = 0
  · rw [(SortNet.apply_stage j.isLt w (cc v x) r h).1, show clear j.val r = true from decide_eq_true h]
    cases w r <;> rfl
  · have h' := (SortNet.apply_stage j.isLt w (cc v x) _ (SortNet.partner_and_of_set j.isLt r h)).2
    rw [SortNet.partner_partner j.isLt, hw] at h'
    rw [h', show clear j.val r = false from decide_eq_false h]
    cases w r
    · exact max_comm _ _
    · exact min_comm _ _

/-- Stages one after another. -/
theorem stages_cc (js : List (Fin 8)) (keep : Fin 8 → IVec Col 1) (w : Fin (2 ^ 8) → Bool)
    (hk : ∀ j ∈ js, ∀ r, keep j (colx r) = BitVec.ofBool (clear j.val r ^^ w r)) (hw : ∀ j ∈ js, ∀ r, w (SortNet.partner 8 j.val r) = w r)
    (v : FVec Ideal Ch .f32) (x : Fin 128) :
    cc (js.foldl (fun u j => stage j (keep j) u) v) x
      = Network.apply ((js.map Fin.val).flatMap fun s => SortNet.stage 8 s w) (cc v x) := by
  induction js generalizing v with
  | nil => rfl
  | cons j js ih =>
    rw [List.foldl_cons, List.map_cons, List.flatMap_cons, SortNet.Network.apply_append,
      ih (fun i hi => hk i (List.mem_cons_of_mem _ hi)) (fun i hi => hw i (List.mem_cons_of_mem _ hi)),
      stage_cc j (keep j) w (hk j List.mem_cons_self) (hw j List.mem_cons_self)]

/-- Complementing one bit leaves the others. -/
theorem clear_partner : ∀ (k j : Fin 8), j < k → ∀ r : Fin (2 ^ 8), clear k.val (SortNet.partner 8 j.val r) = clear k.val r := by
  decide +kernel

/-- The stages of one block size. -/
theorem block_cc (f : Bool) (k : Fin 8) (js : List (Fin 8)) (hjs : ∀ j ∈ js, j < k) (v : FVec Ideal Ch .f32) (x : Fin 128) :
    cc (block (BitVec.ofBool f) k js v) x
      = Network.apply ((js.map Fin.val).flatMap fun s => SortNet.stage 8 s fun r => clear k.val r == f) (cc v x) := by
  refine stages_cc js _ _ (fun j hj r => ?_) (fun j hj r => ?_) v x
  · rw [flipped_at f _ r _ (agree_at k j r)]
    cases clear k.val r <;> cases clear j.val r <;> cases f <;> rfl
  · rw [clear_partner k j (hjs j hj)]

/-- The merge of a chunk in one direction, downwards if `f`. -/
abbrev merge8 (f : Bool) : Network (2 ^ 8) := (List.range 8).reverse.flatMap fun s => SortNet.stage 8 s fun _ => f

theorem tailUp_cc (f : Bool) (v : FVec Ideal Ch .f32) (x : Fin 128) : cc (tailUp (BitVec.ofBool f) v) x = Network.apply (merge8 f) (cc v x) :=
  stages_cc dists _ (fun _ => f) (fun j _ r => flipped_at f _ r _ (bit_at j r)) (fun _ _ _ => rfl) v x

theorem tailDown_cc (f : Bool) (v : FVec Ideal Ch .f32) (x : Fin 128) : cc (tailDown (BitVec.ofBool f) v) x = Network.apply (merge8 (!f)) (cc v x) :=
  stages_cc dists _ (fun _ => !f) (fun j _ r => by
    rw [flipped_at f _ r _ (neg_at _ r _ (bit_at j r))]; cases clear j.val r <;> cases f <;> rfl) (fun _ _ _ => rfl) v x

theorem tail_cc (v : FVec Ideal Ch .f32) (x : Fin 128) : cc (tail v) x = Network.apply (merge8 false) (cc v x) :=
  stages_cc dists _ (fun _ => false) (fun j _ r => by rw [bit_at, Bool.xor_false]) (fun _ _ _ => rfl) v x

/-! ## A device's 1024 rows -/

/-- Column `x` of four chunks. -/
def colQ (q : Quad Ideal) (x : Fin 128) : Fin (2 ^ 10) → EReal := fun i =>
  cc (q.at ⟨i.val / 256, by have := i.isLt; omega⟩) x ⟨i.val % 256, Nat.mod_lt _ (by decide)⟩

theorem h8 : 8 ≤ 10 := by decide

theorem colQ_chunk (q : Quad Ideal) (x : Fin 128) (c : Fin 4) (r : Fin (2 ^ 8)) : colQ q x (chunkPos h8 c r) = cc (q.at c) x r := by
  have hr : r.val < 256 := r.isLt
  have h1 : (chunkPos h8 c r).val / 256 = c.val := by show (c.val * 256 + r.val) / 256 = _; omega
  have h2 : (chunkPos h8 c r).val % 256 = r.val := by show (c.val * 256 + r.val) % 256 = _; omega
  unfold colQ
  exact congr (congrArg (fun k => cc (q.at k) x) (Fin.ext h1)) (Fin.ext h2)

/-- Every position is a position of a chunk. -/
theorem exists_chunk {P p : ℕ} (hp : p ≤ P) (i : Fin (2 ^ P)) : ∃ c j, i = chunkPos hp c j := by
  have hi := i.isLt
  have e : 2 ^ P = 2 ^ p * 2 ^ (P - p) := by rw [← Nat.pow_add, Nat.add_sub_cancel' hp]
  refine ⟨⟨i.val / 2 ^ p, Nat.div_lt_of_lt_mul (e ▸ hi)⟩, ⟨i.val % 2 ^ p, Nat.mod_lt _ (Nat.two_pow_pos p)⟩, Fin.ext ?_⟩
  exact (Nat.div_add_mod' _ _).symm

/-- Stages inside the chunks: each chunk runs them by itself. -/
theorem inside (S : List ℕ) (hS : ∀ s ∈ S, s < 8) (w : Fin (2 ^ 10) → Bool) (g : Fin 4 → Fin (2 ^ 8) → Bool) (hw : ∀ (c : Fin 4) r, w (chunkPos h8 c r) = g c r)
    (q q' : Quad Ideal) (x : Fin 128) (hq : ∀ c, cc (q'.at c) x = Network.apply (S.flatMap fun s => SortNet.stage 8 s (g c)) (cc (q.at c) x)) :
    colQ q' x = Network.apply (S.flatMap fun s => SortNet.stage 10 s w) (colQ q x) := by
  funext i
  obtain ⟨c, r, rfl⟩ := exists_chunk h8 i
  rw [SortNet.apply_flatMap_stage_chunkPos h8 S hS w, colQ_chunk q' x c r, hq c]
  rw [show (fun j => colQ q x (chunkPos h8 c j)) = cc (q.at c) x from funext fun j => colQ_chunk q x c j,
    show (fun j => w (chunkPos h8 c j)) = g c from funext fun j => hw c j]

/-! ## Stages between four chunks -/

section four
variable {α : Type*} [LinearOrder α]

theorem four_near (g : Fin (2 ^ 2) → Bool) (u : Fin (2 ^ 2) → α) :
    Network.apply (SortNet.stage 2 0 g) u 0 = (if g 0 then max (u 0) (u 1) else min (u 0) (u 1))
      ∧ Network.apply (SortNet.stage 2 0 g) u 1 = (if g 0 then min (u 0) (u 1) else max (u 0) (u 1))
      ∧ Network.apply (SortNet.stage 2 0 g) u 2 = (if g 2 then max (u 2) (u 3) else min (u 2) (u 3))
      ∧ Network.apply (SortNet.stage 2 0 g) u 3 = (if g 2 then min (u 2) (u 3) else max (u 2) (u 3)) := by
  have h0 := SortNet.apply_stage (p := 2) (s := 0) (by decide) g u 0 (by decide)
  have h2 := SortNet.apply_stage (p := 2) (s := 0) (by decide) g u 2 (by decide)
  rw [show SortNet.partner 2 0 0 = 1 from by decide] at h0
  rw [show SortNet.partner 2 0 2 = 3 from by decide] at h2
  exact ⟨h0.1, h0.2, h2.1, h2.2⟩

theorem four_far (g : Fin (2 ^ 2) → Bool) (u : Fin (2 ^ 2) → α) :
    Network.apply (SortNet.stage 2 1 g) u 0 = (if g 0 then max (u 0) (u 2) else min (u 0) (u 2))
      ∧ Network.apply (SortNet.stage 2 1 g) u 1 = (if g 1 then max (u 1) (u 3) else min (u 1) (u 3))
      ∧ Network.apply (SortNet.stage 2 1 g) u 2 = (if g 0 then min (u 0) (u 2) else max (u 0) (u 2))
      ∧ Network.apply (SortNet.stage 2 1 g) u 3 = (if g 1 then min (u 1) (u 3) else max (u 1) (u 3)) := by
  have h0 := SortNet.apply_stage (p := 2) (s := 1) (by decide) g u 0 (by decide)
  have h1 := SortNet.apply_stage (p := 2) (s := 1) (by decide) g u 1 (by decide)
  rw [show SortNet.partner 2 1 0 = 2 from by decide] at h0
  rw [show SortNet.partner 2 1 1 = 3 from by decide] at h1
  exact ⟨h0.1, h1.1, h0.2, h1.2⟩

end four

theorem crossLo_cc (f : Bool) (a b : FVec Ideal Ch .f32) (x : Fin 128) (r : Fin (2 ^ 8)) :
    cc (crossLo (BitVec.ofBool f) a b) x r = if f then max (cc a x r) (cc b x r) else min (cc a x r) (cc b x r) := by cases f <;> rfl
theorem crossHi_cc (f : Bool) (a b : FVec Ideal Ch .f32) (x : Fin 128) (r : Fin (2 ^ 8)) :
    cc (crossHi (BitVec.ofBool f) a b) x r = if f then min (cc a x r) (cc b x r) else max (cc a x r) (cc b x r) := by cases f <;> rfl

/-- The compare-exchanges at distance 256. -/
theorem cross1_col (f f' : Bool) (w : Fin (2 ^ 10) → Bool) (hw : ∀ (c : Fin 4) r, w (chunkPos h8 c r) = if c.val < 2 then f else f')
    (q : Quad Ideal) (x : Fin 128) :
    colQ (cross1 (BitVec.ofBool f) (BitVec.ofBool f') q) x = Network.apply (SortNet.stage 10 8 w) (colQ q x) := by
  funext i
  obtain ⟨c, r, rfl⟩ := exists_chunk h8 i
  rw [SortNet.apply_stage_slice h8 (le_refl 8) (by decide), colQ_chunk _ x c r]
  rw [show (fun c => colQ q x (chunkPos h8 c r)) = fun c => cc (q.at c) x r from funext fun c => colQ_chunk q x c r]
  obtain ⟨e0, e1, e2, e3⟩ := four_near (fun c => w (chunkPos h8 c r)) (fun c => cc (q.at c) x r)
  have hw0 := hw 0 r
  have hw2 := hw 2 r
  match c with
  | ⟨0, _⟩ => refine Eq.trans ?_ e0.symm; rw [hw0]; exact crossLo_cc f q.a q.b x r
  | ⟨1, _⟩ => refine Eq.trans ?_ e1.symm; rw [hw0]; exact crossHi_cc f q.a q.b x r
  | ⟨2, _⟩ => refine Eq.trans ?_ e2.symm; rw [hw2]; exact crossLo_cc f' q.c q.d x r
  | ⟨3, _⟩ => refine Eq.trans ?_ e3.symm; rw [hw2]; exact crossHi_cc f' q.c q.d x r

/-- The compare-exchanges at distance 512. -/
theorem cross2_col (f : Bool) (q : Quad Ideal) (x : Fin 128) :
    colQ (cross2 (BitVec.ofBool f) q) x = Network.apply (SortNet.stage 10 9 fun _ => f) (colQ q x) := by
  funext i
  obtain ⟨c, r, rfl⟩ := exists_chunk h8 i
  rw [SortNet.apply_stage_slice h8 (by decide) (by decide), colQ_chunk _ x c r]
  rw [show (fun c => colQ q x (chunkPos h8 c r)) = fun c => cc (q.at c) x r from funext fun c => colQ_chunk q x c r]
  obtain ⟨e0, e1, e2, e3⟩ := four_far (fun _ => f) (fun c => cc (q.at c) x r)
  match c with
  | ⟨0, _⟩ => exact (crossLo_cc f q.a q.c x r).trans e0.symm
  | ⟨1, _⟩ => exact (crossLo_cc f q.b q.d x r).trans e1.symm
  | ⟨2, _⟩ => exact (crossHi_cc f q.a q.c x r).trans e2.symm
  | ⟨3, _⟩ => exact (crossHi_cc f q.b q.d x r).trans e3.symm

/-! ## The merge of a device's rows -/

/-- The merge of a device's rows in one direction, downwards if `f`. -/
def merge10 (f : Bool) : Network (2 ^ 10) := (List.range 10).reverse.flatMap fun s => SortNet.stage 10 s fun _ => f

theorem merge10_split (f : Bool) :
    merge10 f = SortNet.stage 10 9 (fun _ => f) ++ (SortNet.stage 10 8 (fun _ => f) ++ (List.range 8).reverse.flatMap fun s => SortNet.stage 10 s fun _ => f) := rfl

theorem merge_col (f : Bool) (q : Quad Ideal) (x : Fin 128) :
    colQ ((crossAll (BitVec.ofBool f) q).tailUp (BitVec.ofBool f)) x = Network.apply (merge10 f) (colQ q x) := by
  rw [merge10_split, SortNet.Network.apply_append, SortNet.Network.apply_append, ← cross2_col,
    ← cross1_col f f (fun _ => f) (fun c r => (ite_self f).symm)]
  refine inside _ (fun s hs => List.mem_range.mp (List.mem_reverse.mp hs)) (fun _ => f) (fun _ _ => f) (fun _ _ => rfl) _ _ x fun c => ?_
  match c with
  | 0 => exact tailUp_cc f _ x
  | 1 => exact tailUp_cc f _ x
  | 2 => exact tailUp_cc f _ x
  | 3 => exact tailUp_cc f _ x

theorem mergeUp_col (q : Quad Ideal) (x : Fin 128) : colQ (crossUp q).tail x = Network.apply (merge10 false) (colQ q x) := by
  rw [← merge_col false q x]
  have e : ∀ c : Fin 4, cc ((crossUp q).tail.at c) x = cc (((crossAll (BitVec.ofBool false) q).tailUp (BitVec.ofBool false)).at c) x := fun c =>
    match c with
    | 0 => (tail_cc _ x).trans (tailUp_cc false _ x).symm
    | 1 => (tail_cc _ x).trans (tailUp_cc false _ x).symm
    | 2 => (tail_cc _ x).trans (tailUp_cc false _ x).symm
    | 3 => (tail_cc _ x).trans (tailUp_cc false _ x).symm
  funext i
  exact congrFun (e _) _

/-! ## The sort of a device's rows -/

/-- A function of each chunk. -/
def Quad.each (f : FVec Ideal Ch .f32 → FVec Ideal Ch .f32) (q : Quad Ideal) : Quad Ideal := ⟨f q.a, f q.b, f q.c, f q.d⟩

theorem each_at (f : FVec Ideal Ch .f32 → FVec Ideal Ch .f32) (q : Quad Ideal) (c : Fin 4) : (q.each f).at c = f (q.at c) :=
  match c with
  | 0 => rfl
  | 1 => rfl
  | 2 => rfl
  | 3 => rfl

/-- A level whose blocks lie inside the chunks. -/
theorem level_small (f : Bool) (l : ℕ) (k : Fin 8) (hk : k.val = l + 1) (js : List (Fin 8)) (hjs : js.map Fin.val = (List.range (l + 1)).reverse)
    (q : Quad Ideal) (x : Fin 128) :
    colQ (q.each (block (BitVec.ofBool f) k js)) x = Network.apply (levelNet 10 f l) (colQ q x) := by
  have hlt : ∀ s ∈ (List.range (l + 1)).reverse, s < k.val := fun s hs => hk ▸ List.mem_range.mp (List.mem_reverse.mp hs)
  refine inside _ (fun s hs => (hlt s hs).trans k.isLt) _ (fun _ r => clear k.val r == f) (fun c r => ?_) q _ x fun c => ?_
  · rw [SortNet.chunkPos_and h8 (hk ▸ k.isLt), hk]
  · rw [each_at, block_cc f k js (fun j hj => hlt j.val (hjs ▸ List.mem_map_of_mem hj)), hjs]

theorem small_col (f : Bool) (q : Quad Ideal) (x : Fin 128) :
    colQ (q.each (small (BitVec.ofBool f))) x = Network.apply (levelsNet 10 f 7) (colQ q x) := by
  have e : q.each (small (BitVec.ofBool f)) = (((((((q.each (block (BitVec.ofBool f) 1 [0])).each (block (BitVec.ofBool f) 2 [1, 0])).each
    (block (BitVec.ofBool f) 3 [2, 1, 0])).each (block (BitVec.ofBool f) 4 [3, 2, 1, 0])).each (block (BitVec.ofBool f) 5 [4, 3, 2, 1, 0])).each
    (block (BitVec.ofBool f) 6 [5, 4, 3, 2, 1, 0])).each (block (BitVec.ofBool f) 7 [6, 5, 4, 3, 2, 1, 0])) := rfl
  rw [e, level_small f 6 7 rfl _ rfl, level_small f 5 6 rfl _ rfl, level_small f 4 5 rfl _ rfl, level_small f 3 4 rfl _ rfl,
    level_small f 2 3 rfl _ rfl, level_small f 1 2 rfl _ rfl, level_small f 0 1 rfl _ rfl]
  simp only [SortNet.levelsNet_succ, SortNet.Network.apply_append]
  rfl

/-- The level of blocks of 256 rows: each chunk merges, the odd ones the other way. -/
theorem level7_col (f : Bool) (q : Quad Ideal) (x : Fin 128) :
    colQ ⟨tailUp (BitVec.ofBool f) q.a, tailDown (BitVec.ofBool f) q.b, tailUp (BitVec.ofBool f) q.c, tailDown (BitVec.ofBool f) q.d⟩ x
      = Network.apply (levelNet 10 f 7) (colQ q x) := by
  refine inside _ (fun s hs => List.mem_range.mp (List.mem_reverse.mp hs)) _ (fun c _ => decide (c.val % 2 = 0) == f) (fun c r => ?_) q _ x fun c => ?_
  · rw [decide_eq_decide.mpr (SortNet.chunkPos_and_width h8 c r)]
  · match c with
    | 0 => refine (tailUp_cc f q.a x).trans ?_; cases f <;> rfl
    | 1 => refine (tailDown_cc f q.b x).trans ?_; cases f <;> rfl
    | 2 => refine (tailUp_cc f q.c x).trans ?_; cases f <;> rfl
    | 3 => refine (tailDown_cc f q.d x).trans ?_; cases f <;> rfl

/-- The direction of a chunk at the level of blocks of 512 rows. -/
theorem dir8 (f : Bool) (c : Fin 4) (r : Fin (2 ^ 8)) :
    (decide ((chunkPos h8 c r).val &&& 2 ^ (8 + 1) = 0) == f) = if c.val < 2 then f else !f := by
  rw [decide_eq_decide.mpr (SortNet.chunkPos_high_clear_iff h8 (by decide) c r)]
  exact (by decide : ∀ (f : Bool) (c : Fin 4), (decide (c.val &&& 2 ^ (8 + 1 - 8) = 0) == f) = if c.val < 2 then f else !f) f c

/-- The level of blocks of 512 rows. -/
theorem level8_col (f : Bool) (q : Quad Ideal) (x : Fin 128) :
    colQ (let r := cross1 (BitVec.ofBool f) (BitVec.ofBool (!f)) q
      ⟨tailUp (BitVec.ofBool f) r.a, tailUp (BitVec.ofBool f) r.b, tailDown (BitVec.ofBool f) r.c, tailDown (BitVec.ofBool f) r.d⟩) x
      = Network.apply (levelNet 10 f 8) (colQ q x) := by
  have e : levelNet 10 f 8 = SortNet.stage 10 8 (fun i => decide (i.val &&& 2 ^ (8 + 1) = 0) == f)
      ++ (List.range 8).reverse.flatMap fun s => SortNet.stage 10 s fun i => decide (i.val &&& 2 ^ (8 + 1) = 0) == f := rfl
  rw [e, SortNet.Network.apply_append, ← cross1_col f (!f) _ (dir8 f)]
  refine inside _ (fun s hs => List.mem_range.mp (List.mem_reverse.mp hs)) _ (fun c _ => if c.val < 2 then f else !f) (dir8 f) _ _ x fun c => ?_
  match c with
  | 0 => exact tailUp_cc f _ x
  | 1 => exact tailUp_cc f _ x
  | 2 => exact tailDown_cc f _ x
  | 3 => exact tailDown_cc f _ x

/-- The last level is one merge. -/
theorem level9 (f : Bool) : levelNet 10 f 9 = merge10 f := by
  have e : (fun i : Fin (2 ^ 10) => decide (i.val &&& 2 ^ (9 + 1) = 0) == f) = fun _ => f := funext fun i => by
    rw [show i.val &&& 2 ^ (9 + 1) = 0 from (SortNet.and_two_pow_eq_zero_iff (q := 10) ⟨i.val, i.isLt.trans (by decide)⟩).mpr i.isLt]; cases f <;> rfl
  unfold levelNet merge10
  rw [e]

/-- A device's sort of its own rows is Batcher's bitonic sort of 1024 positions, descending if `f`. -/
theorem sort_col (f : Bool) (q : Quad Ideal) (x : Fin 128) :
    colQ ((sortPre (BitVec.ofBool f) (BitVec.ofBool (!f)) q).tailUp (BitVec.ofBool f)) x = Network.apply (sortNet 10 f) (colQ q x) := by
  rw [SortNet.sortNet_eq_levelsNet, SortNet.levelsNet_succ, SortNet.levelsNet_succ, SortNet.levelsNet_succ, SortNet.Network.apply_append,
    SortNet.Network.apply_append, SortNet.Network.apply_append, level9, ← small_col, ← level7_col, ← level8_col, ← merge_col]
  rfl

end Cert.Bitonic

end
-- ==== Proof.Net.lean ====
/-
Sorting 4096 positions on four devices of 1024: the two merging levels across the devices, and the column the four devices
end with, which is the ascending arrangement of the column they start with.
-/
module

public import proofs.«01_k».proof.Proof.Stages
public import Mathlib.Order.Interval.Finset.Fin

@[expose] public section

noncomputable section

namespace Cert.Bitonic

open Idealize.ShloMosaic
open Idealize.ShloMosaic.SortNet (Network chunkPos levelNet sortNet DescAsc lowerPos upperPos mergeAscNet mergeDescNet)

variable {α : Type*} [LinearOrder α]

/-! ## Four blocks of 1024 positions -/

/-- The blocks one after another. -/
def gather (f : Fin 4 → Fin (2 ^ 10) → α) : Fin (2 ^ 12) → α := fun i =>
  f (finProdFinEquiv (m := 4) (n := 2 ^ 10) |>.symm i).1 (finProdFinEquiv (m := 4) (n := 2 ^ 10) |>.symm i).2

theorem h10 : 10 ≤ 12 := by decide

theorem gather_chunk (f : Fin 4 → Fin (2 ^ 10) → α) (c : Fin 4) (j : Fin (2 ^ 10)) : gather f (chunkPos h10 c j) = f c j := by
  have e : chunkPos h10 c j = finProdFinEquiv (m := 4) (n := 2 ^ 10) (c, j) := Fin.ext (by
    show c.val * 2 ^ 10 + j.val = j.val + 2 ^ 10 * c.val; omega)
  unfold gather
  rw [e, Equiv.symm_apply_apply]

/-- Blocks taken from other blocks and rearranged: the whole is rearranged. -/
theorem gather_perm (κ : Equiv.Perm (Fin 4)) (f g : Fin 4 → Fin (2 ^ 10) → α) (h : ∀ c, ∃ σ : Equiv.Perm (Fin (2 ^ 10)), f c = g (κ c) ∘ σ) :
    ∃ σ : Equiv.Perm (Fin (2 ^ 12)), gather f = gather g ∘ σ := by
  choose σ hσ using h
  let e := finProdFinEquiv (m := 4) (n := 2 ^ 10)
  refine ⟨(e.symm.trans (Equiv.prodShear κ σ)).trans e, funext fun i => ?_⟩
  show f (e.symm i).1 (e.symm i).2 = g (e.symm (e (κ (e.symm i).1, σ (e.symm i).1 (e.symm i).2))).1
    (e.symm (e (κ (e.symm i).1, σ (e.symm i).1 (e.symm i).2))).2
  rw [Equiv.symm_apply_apply, hσ]
  rfl

/-- Stages at distances below 1024, each block in one direction: each block merges by itself. -/
theorem merges (w : Fin (2 ^ 12) → Bool) (g : Fin 4 → Bool) (hw : ∀ (c : Fin 4) j, w (chunkPos h10 c j) = g c) (f : Fin 4 → Fin (2 ^ 10) → α) :
    Network.apply ((List.range 10).reverse.flatMap fun s => SortNet.stage 12 s w) (gather f)
      = gather fun c => Network.apply (merge10 (g c)) (f c) := by
  funext i
  obtain ⟨c, j, rfl⟩ := exists_chunk h10 i
  rw [SortNet.apply_flatMap_stage_chunkPos h10 _ (fun s hs => List.mem_range.mp (List.mem_reverse.mp hs)) w,
    show (fun j => gather f (chunkPos h10 c j)) = f c from funext fun j => gather_chunk f c j,
    show (fun j => w (chunkPos h10 c j)) = fun _ => g c from funext fun j => hw c j]
  exact (gather_chunk (fun c => Network.apply (merge10 (g c)) (f c)) c j).symm

/-- A stage at a distance of whole blocks: the blocks exchange, position by position. -/
theorem across (s : ℕ) (h1 : 10 ≤ s) (h2 : s < 12) (w : Fin (2 ^ 12) → Bool) (g : Fin 4 → Bool) (hw : ∀ (c : Fin 4) j, w (chunkPos h10 c j) = g c)
    (f : Fin 4 → Fin (2 ^ 10) → α) :
    Network.apply (SortNet.stage 12 s w) (gather f) = gather fun c j => Network.apply (SortNet.stage 2 (s - 10) g) (fun c => f c j) c := by
  funext i
  obtain ⟨c, j, rfl⟩ := exists_chunk h10 i
  rw [SortNet.apply_stage_slice h10 h1 h2, show (fun c => gather f (chunkPos h10 c j)) = fun c => f c j from funext fun c => gather_chunk f c j,
    show (fun c => w (chunkPos h10 c j)) = g from funext fun c => hw c j]
  exact (gather_chunk (fun c j => Network.apply (SortNet.stage 2 (s - 10) g) (fun c => f c j) c) c j).symm

/-! ## The two levels across the devices -/

/-- Is the block in the upper half? -/
def hi (c : Fin 4) : Bool := decide (2 ≤ c.val)

/-- The level of blocks of 2048 positions: the first two blocks merge upwards, the last two downwards. -/
def pass10 (f : Fin 4 → Fin (2 ^ 10) → α) : Fin 4 → Fin (2 ^ 10) → α := fun c =>
  Network.apply (merge10 (hi c)) fun j => Network.apply (SortNet.stage 2 0 hi) (fun c => f c j) c

/-- The last level: all four blocks merge upwards. -/
def pass11 (f : Fin 4 → Fin (2 ^ 10) → α) : Fin 4 → Fin (2 ^ 10) → α := fun c =>
  Network.apply (merge10 false) fun j =>
    Network.apply (SortNet.stage 2 0 fun _ => false) (Network.apply (SortNet.stage 2 1 fun _ => false) fun c => f c j) c

theorem dir10 (c : Fin 4) (j : Fin (2 ^ 10)) : (decide ((chunkPos h10 c j).val &&& 2 ^ (10 + 1) = 0) == false) = hi c := by
  rw [decide_eq_decide.mpr (SortNet.chunkPos_high_clear_iff h10 (by decide) c j)]
  exact (by decide : ∀ c : Fin 4, (decide (c.val &&& 2 ^ (10 + 1 - 10) = 0) == false) = hi c) c

theorem level10_gather (f : Fin 4 → Fin (2 ^ 10) → α) : Network.apply (levelNet 12 false 10) (gather f) = gather (pass10 f) := by
  have e : levelNet 12 false 10 = SortNet.stage 12 10 (fun i => decide (i.val &&& 2 ^ (10 + 1) = 0) == false)
      ++ (List.range 10).reverse.flatMap fun s => SortNet.stage 12 s fun i => decide (i.val &&& 2 ^ (10 + 1) = 0) == false := rfl
  rw [e, Network.apply_append, across 10 (by decide) (by decide) _ hi dir10, merges _ hi dir10]
  rfl

theorem level11_gather (f : Fin 4 → Fin (2 ^ 10) → α) : Network.apply (levelNet 12 false 11) (gather f) = gather (pass11 f) := by
  have e : levelNet 12 false 11 = SortNet.stage 12 11 (fun i => decide (i.val &&& 2 ^ (11 + 1) = 0) == false)
      ++ (SortNet.stage 12 10 (fun i => decide (i.val &&& 2 ^ (11 + 1) = 0) == false)
      ++ (List.range 10).reverse.flatMap fun s => SortNet.stage 12 s fun i => decide (i.val &&& 2 ^ (11 + 1) = 0) == false) := rfl
  have hw : ∀ (c : Fin 4) (j : Fin (2 ^ 10)), (decide ((chunkPos h10 c j).val &&& 2 ^ (11 + 1) = 0) == false) = false := fun c j => by
    rw [(SortNet.and_two_pow_eq_zero_iff (q := 12) ⟨_, (chunkPos h10 c j).isLt.trans (by decide)⟩).mpr (chunkPos h10 c j).isLt]; rfl
  rw [e, Network.apply_append, Network.apply_append, across 11 (by decide) (by decide) _ (fun _ => false) hw,
    across 10 (by decide) (by decide) _ (fun _ => false) hw, merges _ (fun _ => false) hw]
  rfl

/-! ## The levels sort -/

/-- An ascending half and a descending half. -/
theorem descAsc_of_halves {q : ℕ} (v : Fin (2 ^ (q + 1)) → α) (hl : Monotone fun j => v (lowerPos q j)) (hu : Antitone fun j => v (upperPos q j)) :
    DescAsc v := by
  refine ⟨2 ^ q, Or.inr ⟨fun i j hij hj => ?_, fun i j hij hi => ?_⟩⟩
  · have hij' : i.val ≤ j.val := hij
    have hi : i.val < 2 ^ q := by omega
    rw [SortNet.eq_lowerPos i hi, SortNet.eq_lowerPos j hj]
    exact hl (show i.val ≤ j.val from hij)
  · have hij' : i.val ≤ j.val := hij
    have hi' : ¬i.val < 2 ^ q := by omega
    have hj : ¬j.val < 2 ^ q := by omega
    rw [SortNet.eq_upperPos i hi', SortNet.eq_upperPos j hj]
    exact hu (show i.val - 2 ^ q ≤ j.val - 2 ^ q by omega)

/-- Two blocks sorted in opposite directions: a level leaves the block of twice the width sorted, upwards if its number is even. -/
theorem level_pair {p l : ℕ} (hl : l + 1 ≤ p) (v : Fin (2 ^ p) → α) (c : Fin (2 ^ (p - (l + 1)))) (c₀ c₁ : Fin (2 ^ (p - l)))
    (h0 : c₀.val = 2 * c.val) (h1 : c₁.val = 2 * c.val + 1)
    (hm : Monotone fun j => v (chunkPos (Nat.le_of_succ_le hl) c₀ j)) (ha : Antitone fun j => v (chunkPos (Nat.le_of_succ_le hl) c₁ j)) :
    (c.val % 2 = 0 → Monotone fun j => Network.apply (levelNet p false l) v (chunkPos hl c j))
      ∧ (c.val % 2 ≠ 0 → Antitone fun j => Network.apply (levelNet p false l) v (chunkPos hl c j)) := by
  have hd : DescAsc fun j => v (chunkPos hl c j) := by
    refine descAsc_of_halves _ ?_ ?_
    · simp only [← SortNet.chunkPos_two_mul hl]
      rw [show c₀ = ⟨2 * c.val, h0 ▸ c₀.isLt⟩ from Fin.ext h0] at hm
      exact hm
    · simp only [← SortNet.chunkPos_two_mul_add_one hl]
      rw [show c₁ = ⟨2 * c.val + 1, h1 ▸ c₁.isLt⟩ from Fin.ext h1] at ha
      exact ha
  refine ⟨fun h => ?_, fun h => ?_⟩
  · rw [funext fun j => SortNet.apply_levelNet_chunkPos hl false v c j, decide_eq_true h]
    exact SortNet.mergeAscNet_apply_monotone (l + 1) _ hd
  · rw [funext fun j => SortNet.apply_levelNet_chunkPos hl false v c j, decide_eq_false h]
    exact SortNet.mergeDescNet_apply_antitone (l + 1) _ hd

/-- Blocks sorted up, down, up, down: the two levels leave all the positions in ascending order. -/
theorem four_blocks {l : ℕ} (v : Fin (2 ^ (l + 2)) → α) (b0 b1 b2 b3 : Fin (2 ^ (l + 2 - l))) (e0 : b0.val = 0) (e1 : b1.val = 1) (e2 : b2.val = 2) (e3 : b3.val = 3)
    (hl : l + 1 ≤ l + 2)
    (h0 : Monotone fun j => v (chunkPos (Nat.le_of_succ_le hl) b0 j)) (h1 : Antitone fun j => v (chunkPos (Nat.le_of_succ_le hl) b1 j))
    (h2 : Monotone fun j => v (chunkPos (Nat.le_of_succ_le hl) b2 j)) (h3 : Antitone fun j => v (chunkPos (Nat.le_of_succ_le hl) b3 j)) :
    Monotone (Network.apply (levelNet (l + 2) false (l + 1)) (Network.apply (levelNet (l + 2) false l) v)) := by
  have w : l + 2 - (l + 1) = 1 := by omega
  have lt0 : 0 < 2 ^ (l + 2 - (l + 1)) := Nat.two_pow_pos _
  have lt1 : 1 < 2 ^ (l + 2 - (l + 1)) := by rw [w]; decide
  have hm := (level_pair hl v ⟨0, lt0⟩ b0 b1 e0 e1 h0 h1).1 rfl
  have ha := (level_pair hl v ⟨1, lt1⟩ b2 b3 e2 e3 h2 h3).2 Nat.one_ne_zero
  have h := (level_pair (le_refl (l + 2)) _ ⟨0, Nat.two_pow_pos _⟩ _ _ rfl rfl hm ha).1 rfl
  simp only [SortNet.chunkPos_self] at h
  exact h

/-- So it is with the blocks of 1024. -/
theorem passes_monotone (f : Fin 4 → Fin (2 ^ 10) → α) (h0 : Monotone (f 0)) (h1 : Antitone (f 1)) (h2 : Monotone (f 2)) (h3 : Antitone (f 3)) :
    Monotone (gather (pass11 (pass10 f))) := by
  rw [← level11_gather, ← level10_gather]
  have g : ∀ c : Fin 4, (fun j => gather f (chunkPos h10 c j)) = f c := fun c => funext fun j => gather_chunk f c j
  rw [← g 0] at h0
  rw [← g 1] at h1
  rw [← g 2] at h2
  rw [← g 3] at h3
  exact four_blocks (l := 10) (gather f) 0 1 2 3 rfl rfl rfl rfl (by decide) h0 h1 h2 h3

/-- The two levels rearrange the positions. -/
theorem passes_perm (f : Fin 4 → Fin (2 ^ 10) → α) : ∃ σ : Equiv.Perm (Fin (2 ^ 12)), gather (pass11 (pass10 f)) = gather f ∘ σ := by
  rw [← level11_gather, ← level10_gather, ← Network.apply_append]
  exact Network.exists_perm _ _

/-! ## One ascending arrangement -/

theorem ascending_le {n : ℕ} (f : Fin n → α) (π : Equiv.Perm (Fin n)) (hf : Monotone f) (hg : Monotone (f ∘ π)) (i : Fin n) : f (π i) ≤ f i := by
  by_contra hlt
  have hlt := not_le.mp hlt
  have hmap : ∀ j ∈ Finset.Iic i, π.symm j ∈ Finset.Iio i := fun j hj => by
    refine Finset.mem_Iio.mpr (not_le.mp fun hle => ?_)
    have h := hg hle
    rw [Function.comp_apply, Function.comp_apply, Equiv.apply_symm_apply] at h
    exact absurd (h.trans (hf (Finset.mem_Iic.mp hj))) (not_le.mpr hlt)
  have hc := Finset.card_le_card_of_injOn π.symm hmap (π.symm.injective.injOn)
  rw [Fin.card_Iic, Fin.card_Iio] at hc
  omega

/-- Two rearrangements of one vector that ascend are equal. -/
theorem ascending_unique {n : ℕ} (v : Fin n → α) (σ τ : Equiv.Perm (Fin n)) (hσ : Monotone (v ∘ σ)) (hτ : Monotone (v ∘ τ)) : v ∘ σ = v ∘ τ := by
  have key : ∀ σ τ : Equiv.Perm (Fin n), Monotone (v ∘ σ) → Monotone (v ∘ τ) → ∀ i, v (τ i) ≤ v (σ i) := fun σ τ hσ hτ i => by
    have h := ascending_le (v ∘ σ) (τ.trans σ.symm) hσ (by
      rw [show (v ∘ σ) ∘ (τ.trans σ.symm) = v ∘ τ from funext fun i => congrArg v (Equiv.apply_symm_apply σ (τ i))]; exact hτ) i
    rw [Function.comp_apply, Function.comp_apply, Equiv.trans_apply, Equiv.apply_symm_apply] at h
    exact h
  exact funext fun i => le_antisymm (key τ σ hτ hσ i) (key σ τ hσ hτ i)

/-! ## The devices -/

/-- The partner at the first and last exchange. -/
def devA (c : Fin 4) : Fin 4 := match c with | 0 => 1 | 1 => 0 | 2 => 3 | 3 => 2
/-- The partner at the middle exchange. -/
def devB (c : Fin 4) : Fin 4 := match c with | 0 => 3 | 1 => 2 | 2 => 1 | 3 => 0

/-- The devices in the order of the blocks they hold before the last exchange: the third and the fourth stand swapped. -/
def order : Equiv.Perm (Fin 4) := Equiv.swap 2 3

theorem order_0 : order 0 = 0 := by decide
theorem order_1 : order 1 = 1 := by decide
theorem order_2 : order 2 = 3 := by decide
theorem order_3 : order 3 = 2 := by decide

/-- What each device keeps of its own entry and its partner's. -/
def keepOf (lo : Bool) (a b : α) : α := if lo then min a b else max a b

/-- The devices' three exchanges and merges are the two levels across the blocks; after the last exchange device `c` holds block `c`. -/
theorem devices (V0 V1 V2 V3 : Fin 4 → Fin (2 ^ 10) → α)
    (h1 : ∀ c, V1 c = Network.apply (merge10 (hi c)) fun j => keepOf (decide (c.val % 2 = 0)) (V0 c j) (V0 (devA c) j))
    (h2 : ∀ c j, V2 c j = keepOf (!hi c) (V1 c j) (V1 (devB c) j))
    (h3 : ∀ c, V3 c = Network.apply (merge10 false) fun j => keepOf (decide (c.val % 2 = 0)) (V2 c j) (V2 (devA c) j)) :
    V3 = pass11 (pass10 fun b => V0 (order b)) := by
  have e1 : ∀ b, pass10 (fun b => V0 (order b)) b = V1 (order b) := fun b => by
    have n := fun j => four_near hi fun c => V0 (order c) j
    match b with
    | 0 => rw [order_0, h1]; exact congrArg (Network.apply (merge10 _)) (funext fun j => (n j).1)
    | 1 => rw [order_1, h1]; exact congrArg (Network.apply (merge10 _)) (funext fun j => (n j).2.1.trans (max_comm _ _))
    | 2 => rw [order_2, h1]; exact congrArg (Network.apply (merge10 _)) (funext fun j => (n j).2.2.1)
    | 3 => rw [order_3, h1]; exact congrArg (Network.apply (merge10 _)) (funext fun j => (n j).2.2.2.trans (min_comm _ _))
  have e2 : ∀ j b, Network.apply (SortNet.stage 2 1 fun _ => false) (fun c => V1 (order c) j) b = V2 (order b) j := fun j b => by
    have n := four_far (fun _ => false) fun c => V1 (order c) j
    match b with
    | 0 => rw [order_0, h2]; exact n.1
    | 1 => rw [order_1, h2]; exact n.2.1
    | 2 => rw [order_2, h2]; exact n.2.2.1.trans (max_comm _ _)
    | 3 => rw [order_3, h2]; exact n.2.2.2.trans (max_comm _ _)
  funext c
  unfold pass11
  rw [h3]
  refine congrArg (Network.apply (merge10 _)) (funext fun j => ?_)
  refine Eq.trans ?_ (congrArg (fun u => Network.apply (SortNet.stage 2 0 fun _ => false) (Network.apply (SortNet.stage 2 1 fun _ => false) u) c)
    (funext fun c => (congrFun (e1 c) j).symm))
  refine Eq.trans ?_ (congrArg (fun u => Network.apply (SortNet.stage 2 0 fun _ => false) u c) (funext fun b => (e2 j b).symm))
  have n := four_near (fun _ => false) fun b => V2 (order b) j
  match c with
  | 0 => exact n.1.symm
  | 1 => exact (n.2.1.trans (max_comm _ _)).symm
  | 2 => exact (n.2.2.1.trans (min_comm _ _)).symm
  | 3 => exact n.2.2.2.symm

/-- Does the device sort its own rows downwards? -/
def down (c : Fin 4) : Bool := c == 1 || c == 2

/-- From the columns the devices start with to the columns they end with: the whole is in ascending order and a rearrangement. -/
theorem devices_sort (X V0 V1 V2 V3 : Fin 4 → Fin (2 ^ 10) → α) (h0 : ∀ c, V0 c = Network.apply (sortNet 10 (down c)) (X c))
    (h1 : ∀ c, V1 c = Network.apply (merge10 (hi c)) fun j => keepOf (decide (c.val % 2 = 0)) (V0 c j) (V0 (devA c) j))
    (h2 : ∀ c j, V2 c j = keepOf (!hi c) (V1 c j) (V1 (devB c) j))
    (h3 : ∀ c, V3 c = Network.apply (merge10 false) fun j => keepOf (decide (c.val % 2 = 0)) (V2 c j) (V2 (devA c) j)) :
    Monotone (gather V3) ∧ ∃ σ : Equiv.Perm (Fin (2 ^ 12)), gather V3 = gather X ∘ σ := by
  rw [devices V0 V1 V2 V3 h1 h2 h3]
  refine ⟨passes_monotone _ ?_ ?_ ?_ ?_, ?_⟩
  · rw [h0, order_0]; exact SortNet.sortNet_apply_monotone 10 _
  · rw [h0, order_1]; exact SortNet.sortNet_apply_antitone 10 _
  · rw [h0, order_2]; exact SortNet.sortNet_apply_monotone 10 _
  · rw [h0, order_3]; exact SortNet.sortNet_apply_antitone 10 _
  · obtain ⟨σ, hσ⟩ := passes_perm fun b => V0 (order b)
    obtain ⟨τ, hτ⟩ := gather_perm order (fun b => V0 (order b)) X fun c => by rw [h0]; exact Network.exists_perm _ _
    exact ⟨σ.trans τ, by rw [hσ, hτ]; rfl⟩

end Cert.Bitonic

end
-- ==== Proof.Reference.lean ====
/-
The reference's sort read one column at a time, at the ideal instance: each column of the result is the ascending
rearrangement of the argument's column.
-/
module

public import proofs.«01_k».proof.Proof.Gen.ReferenceIdeal.Run
public import Idealize.ShloMosaic.PureOps.Ideal
public import Idealize.ShloMosaic.Lib.SortFacts
public import Idealize.ShloMosaic.Lib.SortNet.Printed

@[expose] public section

noncomputable section

namespace Cert.ReferenceProof

open Cert.ReferenceIdeal
open Idealize.ShloMosaic

/-- Row `r`, column `y` of the whole array. -/
def rx (r : Fin 4096) (y : Fin 256) : S4096x256.Idx := fun a => match a with
  | ⟨0, _⟩ => r
  | ⟨1, _⟩ => y

/-- The comparator is the order of the extended reals: the zeros are one value and no value is a NaN. -/
theorem comparator_lt (l r : EReal) : (comparator_f32_d0 (F := Ideal) l r == 1#1) = decide (l < r) := by
  have hz : ∀ x z q : EReal, Scalar.select (Ideal.cmp .une x x) q (Scalar.select (Ideal.cmp .oeq x z) z x) = x := fun x z q => by
    have h1 : Ideal.cmp .une x x = BitVec.ofBool (decide (x ≠ x)) := rfl
    have h2 : Ideal.cmp .oeq x z = BitVec.ofBool (decide (x = z)) := rfl
    rw [h1, h2, decide_eq_false (fun h => h rfl)]
    show Scalar.select (BitVec.ofBool (decide (x = z))) z x = x
    by_cases h : x = z
    · rw [decide_eq_true h, h]; rfl
    · rw [decide_eq_false h]; rfl
  have e : comparator_f32_d0 (F := Ideal) l r = Ideal.cmp .olt l r :=
    congrArg₂ (Ideal.cmp .olt) (hz l (Ideal.ofBits .f32 0x00000000#32) (Ideal.ofBits .f32 0x7FC00000#32))
      (hz r (Ideal.ofBits .f32 0x00000000#32) (Ideal.ofBits .f32 0x7FC00000#32))
  rw [e]
  show (BitVec.ofBool (decide (l < r)) == 1#1) = _
  cases decide (l < r) <;> rfl

/-- The positions sorted by the entries: the entries are rearranged in ascending order. -/
theorem sortedFrom_ascending {n : ℕ} (v : Fin n → EReal) :
    ∃ τ : Equiv.Perm (Fin n), Monotone (v ∘ τ) ∧ ∀ i, sortedFrom (fun k k' => decide (v k < v k')) i = τ i := by
  have hB : ∀ a b, decide (v a < v b) = true ↔ v a < v b := fun a b => decide_eq_true_iff
  have hB' : ∀ a b, decide (v a < v b) = false ↔ v b ≤ v a := fun a b => decide_eq_false_iff_not.trans not_lt
  refine ⟨Equiv.ofBijective _ ⟨sortedFrom_injective fun k k' => decide (v k < v k'), sortedFrom_surjective _⟩, ?_, fun i => rfl⟩
  intro i j hij
  rcases eq_or_lt_of_le hij with rfl | hlt
  · exact le_rfl
  · exact (hB' _ _).mp (sortedFrom_noInversion (fun k k' => decide (v k < v k')) (fun k k' => decide (v k < v k'))
      (fun a b h => (hB' b a).mpr ((hB a b).mp h).le) (fun _ _ h => h)
      (fun a b c h1 h2 => (hB' a c).mpr (((hB' a b).mp h1).trans' ((hB' b c).mp h2))) i j hlt)

/-- A place moved along its column. -/
theorem along_rx (i k : Fin 4096) (y : Fin 256) : (rx i y).along (0 : Fin 2) k = rx k y := funext fun a => by
  match a with
  | ⟨0, _⟩ => rfl
  | ⟨1, _⟩ => rfl

/-- A column of the sorted array is the argument's column, rearranged in ascending order. -/
theorem sorted_column (x : S4096x256.Idx → EReal) (y : Fin 256) :
    ∃ τ : Equiv.Perm (Fin 4096), Monotone ((fun k => x (rx k y)) ∘ τ)
      ∧ ∀ i : Fin 4096, Host.sort S4096x256 0 (comparator_f32_d0 (F := Ideal)) x (rx i y) = x (rx (τ i) y) := by
  obtain ⟨τ, hm, hτ⟩ := sortedFrom_ascending fun k : Fin 4096 => x (rx k y)
  refine ⟨τ, hm, fun i => ?_⟩
  rw [← hτ i]
  unfold Host.sort
  rw [dif_pos (by decide : 0 < S4096x256.rank)]
  refine (congrArg x (along_rx i _ y)).trans ?_
  refine congrArg (fun B => x (rx (sortedFrom B i) y)) (funext fun k => funext fun k' => ?_)
  refine (comparator_lt _ _).trans ?_
  exact congrArg₂ (fun a b => decide (x a < x b)) (along_rx i k y) (along_rx i k' y)

end Cert.ReferenceProof

end
-- ==== Proof.Values.lean ====
/-
What the four devices end with, at the ideal instance: device `c`'s result is block `c` of the sorted array.
-/
module

public import proofs.«01_k».proof.Proof.KernelIdealLaunch
public import proofs.«01_k».proof.Proof.Net
public import proofs.«01_k».proof.Proof.Reference
public import Idealize.ShloMosaic.Lib.Layout
public import Idealize.ShloMosaic.Lib.Pipeline.ValueKit.Geometry

@[expose] public section

noncomputable section

namespace Cert.Values

open Cert.KernelIdeal Cert.KernelIdeal.Gen Cert.Bitonic Cert.KernelIdealProof Cert.ReferenceProof
open Idealize.ShloMosaic
open Idealize.ShloMosaic.TcCoe
open Idealize.ShloMosaic.SortNet (Network chunkPos sortNet)

variable (m : (ℓ : Loc nD τ sig) → Buf (Elt Ideal) ℓ) (ρ : Dev nD → PrngReg)

/-! ## The devices' flags -/

theorem flipL_eq : ∀ c : Dev nD, flipL c = BitVec.ofBool (down c) := by decide +kernel
theorem notFlipL_eq : ∀ c : Dev nD, notFlipL c = BitVec.ofBool (!down c) := by decide +kernel
theorem flip1_eq : ∀ c : Dev nD, flip1 c = BitVec.ofBool (hi c) := by decide +kernel
theorem km1_eq : ∀ c : Dev nD, km1 c = BitVec.ofBool (decide (c.val % 2 = 0)) := by decide +kernel
theorem km2_eq : ∀ c : Dev nD, km2 c = BitVec.ofBool (!hi c) := by decide +kernel
theorem km3_eq : ∀ c : Dev nD, km3 c = BitVec.ofBool (decide (c.val % 2 = 0)) := by decide +kernel
theorem pa_eq : ∀ c : Dev nD, pa c = devA c := by decide +kernel
theorem pb_eq : ∀ c : Dev nD, pb c = devB c := by decide +kernel

/-- Four chunks against the partner's, column by column. -/
theorem combine_col (lo : Bool) (q t : Quad Ideal) (x : Fin 128) :
    colQ (q.combine (BitVec.ofBool lo) t) x = fun j => keepOf lo (colQ q x j) (colQ t x j) := by
  funext i
  obtain ⟨c, r, rfl⟩ := exists_chunk h8 i
  simp only [colQ_chunk _ x c r]
  match c with
  | 0 => cases lo <;> rfl
  | 1 => cases lo <;> rfl
  | 2 => cases lo <;> rfl
  | 3 => cases lo <;> rfl

/-! ## The columns after each exchange -/

/-- The column the devices start with. -/
def start (h : Fin 2) (x : Fin 128) (c : Fin 4) : Fin (2 ^ 10) → EReal := colQ (quadOf (xstg m ρ c) h) x

/-- The column they end with is the ascending rearrangement of it. -/
theorem final_sorted (h : Fin 2) (x : Fin 128) :
    Monotone (gather fun c : Fin 4 => colQ (v3 m ρ c h) x)
      ∧ ∃ σ : Equiv.Perm (Fin (2 ^ 12)), (gather fun c : Fin 4 => colQ (v3 m ρ c h) x) = gather (start m ρ h x) ∘ σ :=
  devices_sort (start m ρ h x) (fun c => colQ (v0 m ρ c h) x) (fun c => colQ (v1 m ρ c h) x) (fun c => colQ (v2 m ρ c h) x) _
    (fun c => by
      unfold v0
      rw [flipL_eq, notFlipL_eq, sort_col]
      rfl)
    (fun c => by
      show colQ (v1 m ρ c h) x = _
      unfold v1
      rw [flip1_eq, km1_eq, pa_eq, merge_col, combine_col])
    (fun c j => by
      show colQ (v2 m ρ c h) x j = _
      unfold v2
      rw [km2_eq, pb_eq, combine_col])
    (fun c => by
      unfold v3
      rw [km3_eq, pa_eq, mergeUp_col, combine_col])

/-! ## Where the columns stand in the arrays -/

/-- Column `x` of half `h`. -/
def colOf (h : Fin 2) (x : Fin 128) : Fin 256 := ⟨128 * h.val + x.val, by omega⟩

/-- A place of a chunk, in the whole array. -/
theorem place (ht : Layout.Tiles ⟨2, ![1024, 256]⟩ ⟨2, ![4096, 256]⟩ 0 4) (c : Fin 4) (h : Fin 2) (i : Fin 4) (r : Fin (2 ^ 8)) (x : Fin 128) :
    ht.idx c ((rowsR h i).emb (chx r x)) = rx (chunkPos h10 c (chunkPos h8 i r)) (colOf h x) := by
  have e : ∀ a, (((rowsR h i).emb (chx r x)) a).val = (![256 * i.val, 128 * h.val] : Fin 2 → ℕ) a + (chx r x a).val := fun a =>
    ValueKit.rect_emb_unit_val (s := S1024x256) ![256 * i.val, 128 * h.val] S256x128.size (inb_rows h i) (chx r x) a
  funext a
  match a with
  | ⟨0, _⟩ =>
    refine Fin.ext ?_
    show c.val * 1024 + (((rowsR h i).emb (chx r x)) 0).val = c.val * 2 ^ 10 + (i.val * 2 ^ 8 + r.val)
    rw [e]
    show c.val * 1024 + (256 * i.val + r.val) = _
    omega
  | ⟨1, _⟩ =>
    refine Fin.ext ?_
    show (((rowsR h i).emb (chx r x)) 1).val = 128 * h.val + x.val
    rw [e]
    rfl

/-- A device's argument, as its staging buffer holds it, is its argument. -/
theorem xstg_eq (c : Dev nD) : xstg m ρ c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _

/-- What the devices start with is the whole array's column. -/
theorem start_eq (X : Cert.ReferenceIdeal.S4096x256.Idx → EReal)
    (hX : ∀ c : Dev nD, m ((c : Thread nD τ).loc main_arg0) = Layout.block ⟨2, ![1024, 256]⟩ ⟨2, ![4096, 256]⟩ 0 4 c X) (h : Fin 2) (x : Fin 128) :
    gather (start m ρ h x) = fun k => X (rx k (colOf h x)) := by
  funext k
  obtain ⟨c, j, rfl⟩ := exists_chunk h10 k
  obtain ⟨i, r, rfl⟩ := exists_chunk h8 j
  refine (gather_chunk (start m ρ h x) c _).trans ?_
  unfold start
  rw [xstg_eq, hX c]
  refine (colQ_chunk _ x i r).trans ?_
  have e : ∀ f : (cc0_stg0_0 : Ref sig .tc).ty.Contents (Elt Ideal), cc ((quadOf f h).at i) x r = f ((rowsR h i).emb (chx r x)) := fun f => by
    have hc : ∀ i : Fin 4, (quadOf f h).at i = chunkOf f h i := fun i => match i with
      | 0 => rfl
      | 1 => rfl
      | 2 => rfl
      | 3 => rfl
    rw [hc]
    exact congrFun (shapeCast_self (s := Ch) (xM.view.readAt (Elt Ideal) (rowsR h i).toLoadRect f) cast_ch) (chx r x)
  rw [e]
  show X (Layout.Tiles.idx _ c _) = _
  rw [place]

/-- Device `c` ends with block `c` of the sorted array. -/
theorem outAt_eq (X : Cert.ReferenceIdeal.S4096x256.Idx → EReal)
    (hX : ∀ c : Dev nD, m ((c : Thread nD τ).loc main_arg0) = Layout.block ⟨2, ![1024, 256]⟩ ⟨2, ![4096, 256]⟩ 0 4 c X) (c : Dev nD) :
    outAt m ρ c = Layout.block ⟨2, ![1024, 256]⟩ ⟨2, ![4096, 256]⟩ 0 4 c (Host.sort Cert.ReferenceIdeal.S4096x256 0 (Cert.ReferenceIdeal.comparator_f32_d0 (F := Ideal)) X) := by
  funext j
  obtain ⟨h, i, x', rfl⟩ := rows_cover j
  obtain ⟨r, x, rfl⟩ : ∃ r x, x' = chx r x := ⟨x' 0, x' 1, funext fun a => match a with
    | ⟨0, _⟩ => rfl
    | ⟨1, _⟩ => rfl⟩
  refine (outOver_at m ρ c _ h i (chx r x)).trans ?_
  obtain ⟨τ, hτ, hs⟩ := sorted_column X (colOf h x)
  obtain ⟨hm, σ, hσ⟩ := final_sorted m ρ h x
  rw [start_eq m ρ X hX] at hσ
  rw [hσ] at hm
  have hu := ascending_unique _ σ τ hm hτ
  rw [← hσ] at hu
  have h1 : (gather fun c : Fin 4 => colQ (v3 m ρ c h) x) (chunkPos h10 c (chunkPos h8 i r)) = (v3 m ρ c h).at i (chx r x) :=
    (gather_chunk (fun c : Fin 4 => colQ (v3 m ρ c h) x) c _).trans (colQ_chunk _ x i r)
  rw [← h1, hu]
  show _ = Host.sort Cert.ReferenceIdeal.S4096x256 0 _ X (Layout.Tiles.idx _ c _)
  rw [place, hs]
  rfl

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Values
public import Idealize.ShloMosaic.Adequacy
public import Idealize.ShloMosaic.Init

@[expose] public section

noncomputable section

namespace Cert.Proof

open Idealize.ShloMosaic Idealize.SL.Sem Cert.Kernel

/-- The result array's block is the whole array. -/
theorem read_result (f : (Cert.KernelIdeal.main_v1 : Ref Cert.KernelIdeal.sig .tc).ty.Contents (Elt Ideal)) :
    (Cert.KernelIdeal.win0_1.blk (0 : Fin 1)).view.read (Elt Ideal) f = f :=
  Memref.read_access_unit_zero (Elt Ideal) Cert.KernelIdeal.main_v1
    (off := fun a => (Cert.KernelIdeal.win0_1.index (0 : Fin 1)) a * Cert.KernelIdeal.main_v1.ty.shape.size a)
    (funext fun a => by fin_cases a <;> decide) (fun a => by fin_cases a <;> decide) f

/-- The kernel's run ends, its arguments as they were and every counter at zero. -/
theorem frame_kernel : Cert.quiescent_Kernel (hKernel := Cert.Kernel.Gen.facts) := fun m ρ _ =>
  (θ_run Cert.Kernel.defs _ _).mono (fun _ h => ⟨fun c => (h.1 c (0 : Fin 2)).trans (Cert.KernelProof.finalA_x m ρ c), h.2⟩)
    (Cert.KernelProof.run_main (F := Bits) m ρ)

/-- So does the ideal kernel's. -/
theorem frame_ideal : Cert.quiescent_KernelIdeal (hKernelIdeal := Cert.KernelIdeal.Gen.facts) := fun m ρ _ =>
  (θ_run Cert.KernelIdeal.defs _ _).mono (fun _ h => ⟨fun c => (h.1 c (0 : Fin 2)).trans (Cert.KernelIdealProof.finalA_x m ρ c), h.2⟩)
    (Cert.KernelIdealProof.run_main (F := Ideal) m ρ)

/-- So does the ideal reference's. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel's results are the blocks of the ideal reference's. -/
theorem same_results : Cert.algebraic_KernelIdeal_ReferenceIdeal (hKernelIdeal := Cert.KernelIdeal.Gen.facts)
    (hReferenceIdeal := Cert.ReferenceIdeal.Gen.facts) := fun m g m' g' _ hagree => by
  refine ⟨_, ?_, (θ_run Cert.ReferenceIdeal.defs _ _).mono (fun _ h => h 0) (Cert.ReferenceIdeal.Value.run (F := Ideal) m' g')⟩
  refine (θ_run Cert.KernelIdeal.defs _ _).mono (fun _ h c => ⟨(h.1 c (1 : Fin 2)).trans ?_, (h.1 c (0 : Fin 2)).trans (Cert.KernelIdealProof.finalA_x m g c)⟩)
    (Cert.KernelIdealProof.run_main (F := Ideal) m g)
  have ho := Cert.KernelIdealProof.finalA_o m g c
  rw [read_result] at ho
  exact ho.trans (Cert.Values.outAt_eq m g _ hagree c)

/-- Every claim. -/
theorem claim : Cert.Claim := ⟨Cert.Kernel.Gen.facts, Cert.KernelIdeal.Gen.facts, Cert.ReferenceIdeal.Gen.facts,
  frame_kernel, frame_ideal, frame_reference, trivial, same_results⟩

end Cert.Proof

end
